-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17)
      ∧ r.2.mem ((c.tc : Thread Cert.Kernel3.nD Cert.Kernel3.τ).loc Cert.Kernel3.main_arg18) = m ((c.tc : Thread Cert.Kernel3.nD Cert.Kernel3.τ).loc Cert.Kernel3.main_arg18)
      ∧ r.2.mem ((c.tc : Thread Cert.Kernel3.nD Cert.Kernel3.τ).loc Cert.Kernel3.main_arg19) = m ((c.tc : Thread Cert.Kernel3.nD Cert.Kernel3.τ).loc Cert.Kernel3.main_arg19)
      ∧ r.2.mem ((c.tc : Thread Cert.Kernel3.nD Cert.Kernel3.τ).loc Cert.Kernel3.main_arg20) = m ((c.tc : Thread Cert.Kernel3.nD Cert.Kernel3.τ).loc Cert.Kernel3.main_arg20))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
      ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
      ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
      ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17)
      ∧ r.2.mem ((c.tc : Thread Cert.Reference3Ideal.nD Cert.Reference3Ideal.τ).loc Cert.Reference3Ideal.main_arg18) = m ((c.tc : Thread Cert.Reference3Ideal.nD Cert.Reference3Ideal.τ).loc Cert.Reference3Ideal.main_arg18)
      ∧ r.2.mem ((c.tc : Thread Cert.Reference3Ideal.nD Cert.Reference3Ideal.τ).loc Cert.Reference3Ideal.main_arg19) = m ((c.tc : Thread Cert.Reference3Ideal.nD Cert.Reference3Ideal.τ).loc Cert.Reference3Ideal.main_arg19)
      ∧ r.2.mem ((c.tc : Thread Cert.Reference3Ideal.nD Cert.Reference3Ideal.τ).loc Cert.Reference3Ideal.main_arg20) = m ((c.tc : Thread Cert.Reference3Ideal.nD Cert.Reference3Ideal.τ).loc Cert.Reference3Ideal.main_arg20))
      ∧ r.2.sem = fun _ => 0)

def preserves_Kernel_KernelIdeal : Prop :=
  IdealRules.named_const.Statement Cert.KernelIdeal.κ "q_scale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)) →
    ∃ (v0 : (c : Dev Cert.Kernel2Ideal.nD) → Buf (Elt Ideal) ((c.tc : Thread Cert.Kernel2Ideal.nD Cert.Kernel2Ideal.τ).loc Cert.Kernel2Ideal.main_v18_0)) (v1 : (c : Dev Cert.Kernel2Ideal.nD) → Buf (Elt Ideal) ((c.tc : Thread Cert.Kernel2Ideal.nD Cert.Kernel2Ideal.τ).loc Cert.Kernel2Ideal.main_v18_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18_0) = v0 c
          ∧ r.2.mem ((c.tc : Thread Cert.Kernel2Ideal.nD Cert.Kernel2Ideal.τ).loc Cert.Kernel2Ideal.main_v18_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v104) = v0 c
          ∧ r.2.mem ((c.tc : Thread Cert.Reference2Ideal.nD Cert.Reference2Ideal.τ).loc Cert.Reference2Ideal.main_v105) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)
      ∧ m' ((c.tc : Thread Cert.Reference3Ideal.nD Cert.Reference3Ideal.τ).loc Cert.Reference3Ideal.main_arg18) = m ((c.tc : Thread Cert.Kernel3Ideal.nD Cert.Kernel3Ideal.τ).loc Cert.Kernel3Ideal.main_arg18)
      ∧ m' ((c.tc : Thread Cert.Reference3Ideal.nD Cert.Reference3Ideal.τ).loc Cert.Reference3Ideal.main_arg19) = m ((c.tc : Thread Cert.Kernel3Ideal.nD Cert.Kernel3Ideal.τ).loc Cert.Kernel3Ideal.main_arg19)
      ∧ m' ((c.tc : Thread Cert.Reference3Ideal.nD Cert.Reference3Ideal.τ).loc Cert.Reference3Ideal.main_arg20) = m ((c.tc : Thread Cert.Kernel3Ideal.nD Cert.Kernel3Ideal.τ).loc Cert.Kernel3Ideal.main_arg20)) →
    ∃ (v0 : (c : Dev Cert.Kernel3Ideal.nD) → Buf (Elt Ideal) ((c.tc : Thread Cert.Kernel3Ideal.nD Cert.Kernel3Ideal.τ).loc Cert.Kernel3Ideal.main_v28_0)) (v1 : (c : Dev Cert.Kernel3Ideal.nD) → Buf (Elt Ideal) ((c.tc : Thread Cert.Kernel3Ideal.nD Cert.Kernel3Ideal.τ).loc Cert.Kernel3Ideal.main_v28_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v28_0) = v0 c
          ∧ r.2.mem ((c.tc : Thread Cert.Kernel3Ideal.nD Cert.Kernel3Ideal.τ).loc Cert.Kernel3Ideal.main_v28_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
          ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
          ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
          ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v117) = v0 c
          ∧ r.2.mem ((c.tc : Thread Cert.Reference3Ideal.nD Cert.Reference3Ideal.τ).loc Cert.Reference3Ideal.main_v118) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17)
          ∧ r.2.mem ((c.tc : Thread Cert.Reference3Ideal.nD Cert.Reference3Ideal.τ).loc Cert.Reference3Ideal.main_arg18) = m' ((c.tc : Thread Cert.Reference3Ideal.nD Cert.Reference3Ideal.τ).loc Cert.Reference3Ideal.main_arg18)
          ∧ r.2.mem ((c.tc : Thread Cert.Reference3Ideal.nD Cert.Reference3Ideal.τ).loc Cert.Reference3Ideal.main_arg19) = m' ((c.tc : Thread Cert.Reference3Ideal.nD Cert.Reference3Ideal.τ).loc Cert.Reference3Ideal.main_arg19)
          ∧ r.2.mem ((c.tc : Thread Cert.Reference3Ideal.nD Cert.Reference3Ideal.τ).loc Cert.Reference3Ideal.main_arg20) = m' ((c.tc : Thread Cert.Reference3Ideal.nD Cert.Reference3Ideal.τ).loc Cert.Reference3Ideal.main_arg20))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S8x2048x1024 : Shape := ⟨3, ![8, 2048, 1024]⟩
abbrev S8x2048x512 : Shape := ⟨3, ![8, 2048, 512]⟩
abbrev S1x16 : Shape := ⟨2, ![1, 16]⟩
abbrev S_ : Shape := ⟨0, ![]⟩
abbrev S8x2048x256 : Shape := ⟨3, ![8, 2048, 256]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  slices_S8x2048x512_S8x2048x256_0_0_0 : S8x2048x512.Slices ![0, 0, 0] S8x2048x256
  bcast_S_S8x2048x256 : S_.BroadcastsInDim S8x2048x256 (![] : Fin 0 → Fin S8x2048x256.rank)
  reducesTo_S8x2048x256_S_d0_1_2 : S8x2048x256.ReducesTo [0, 1, 2] S_
  bcast_S_S1x16 : S_.BroadcastsInDim S1x16 (![] : Fin 0 → Fin S1x16.rank)
  reducesTo_S1x16_S_d0_1 : S1x16.ReducesTo [0, 1] S_

variable [Facts]

def fn {F : FTy → Type} [FloatOps F] (main_arg0 : FVec F S8x2048x1024 .f32) (main_arg1 : FVec F S8x2048x512 .f32) (main_arg2 : FVec F S1x16 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x256 .f32 := (extractStridedSlice S8x2048x256 ![0, 0, 0] · slices_S8x2048x512_S8x2048x256_0_0_0) main_arg1
  let main_v5 : FVec F S8x2048x256 .f32 := Host.absf main_v4
  let main_cst_0 : FVec F S_ .f32 := constant S_ .f32 0x7F800000#32
  let main_v6 : FVec F S8x2048x256 .f32 := broadcastInDim S8x2048x256 ![] bcast_S_S8x2048x256 main_cst_0
  let main_v7 : IVec S8x2048x256 1 := cmpf .olt main_v5 main_v6
  let main_c_1 : IVec S_ 1 := constantI S_ 1 1#1
  let main_v8 : IVec S_ 1 := (fun x v => Host.reduce IntOp.andi x v reducesTo_S8x2048x256_S_d0_1_2 h_S_) main_v7 main_c_1
  let main_v9 : IVec S_ 1 := andi main_v3 main_v8
  let main_v10 : FVec F S1x16 .f32 := Host.absf main_arg2
  let main_cst_2 : FVec F S_ .f32 := constant S_ .f32 0x7F800000#32
  let main_v11 : FVec F S1x16 .f32 := broadcastInDim S1x16 ![] bcast_S_S1x16 main_cst_2
  let main_v12 : IVec S1x16 1 := cmpf .olt main_v10 main_v11
  let main_c_3 : IVec S_ 1 := constantI S_ 1 1#1
  let main_v13 : IVec S_ 1 := (fun x v => Host.reduce IntOp.andi x v reducesTo_S1x16_S_d0_1 h_S_) main_v12 main_c_3
  let main_v14 : IVec S_ 1 := andi main_v9 main_v13
  main_v14
-- ==== Kernel.lean ====
abbrev S8x2048x1024 : Shape := ⟨3, ![8, 2048, 1024]⟩
abbrev S8x2048x512 : Shape := ⟨3, ![8, 2048, 512]⟩
abbrev S1x16 : Shape := ⟨2, ![1, 16]⟩
abbrev S16 : Shape := ⟨1, ![16]⟩
abbrev S1x512x1024 : Shape := ⟨3, ![1, 512, 1024]⟩
abbrev S1x128x512 : Shape := ⟨3, ![1, 128, 512]⟩
abbrev S1x512x512 : Shape := ⟨3, ![1, 512, 512]⟩
abbrev S128x128 : Shape := ⟨2, ![128, 128]⟩
abbrev S128x256 : Shape := ⟨2, ![128, 256]⟩
abbrev S1x128x128 : Shape := ⟨3, ![1, 128, 128]⟩
abbrev S64x128 : Shape := ⟨2, ![64, 128]⟩
abbrev S256x128 : Shape := ⟨2, ![256, 128]⟩
abbrev S1 : Shape := ⟨1, ![1]⟩
abbrev S1x128 : Shape := ⟨2, ![1, 128]⟩
abbrev S1x256 : Shape := ⟨2, ![1, 256]⟩
abbrev S256x256 : Shape := ⟨2, ![256, 256]⟩
abbrev S256 : Shape := ⟨1, ![256]⟩

abbrev nBuf : Space → Nat
  | .hbm => 5
  | .vmem => 8
  | .smem => 1
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S1x16, .f32⟩
  | .hbm, ⟨3, _⟩ => ⟨S16, .f32⟩
  | .hbm, ⟨4, _⟩ => ⟨S8x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x128x512, .f32⟩
  | .local _ .vmem, ⟨3, _⟩ => ⟨S1x128x512, .f32⟩
  | .local _ .vmem, ⟨4, _⟩ => ⟨S1x512x512, .f32⟩
  | .local _ .vmem, ⟨5, _⟩ => ⟨S1x512x512, .f32⟩
  | .local _ .vmem, ⟨6, _⟩ => ⟨S1x512x1024, .bf16⟩
  | .local _ .vmem, ⟨7, _⟩ => ⟨S1x512x1024, .bf16⟩
  | .local _ .smem, ⟨0, _⟩ => ⟨S16, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log2e" => some (((Real.log 2)⁻¹ : ℝ) : EReal)
  | "q_scale" => some (((1 / 8) * (Real.log 2)⁻¹ : ℝ) : EReal)
  | _ => none
-- ==== ReferenceIdeal.lean ====
abbrev S8x2048x1024 : Shape := ⟨3, ![8, 2048, 1024]⟩
abbrev S8x2048x512 : Shape := ⟨3, ![8, 2048, 512]⟩
abbrev S1x16 : Shape := ⟨2, ![1, 16]⟩
abbrev S8x2048x256 : Shape := ⟨3, ![8, 2048, 256]⟩
abbrev S8x2048x4x4x64 : Shape := ⟨5, ![8, 2048, 4, 4, 64]⟩
abbrev S8x2048x4x64 : Shape := ⟨4, ![8, 2048, 4, 64]⟩
abbrev S8x16x128x4x4x64 : Shape := ⟨6, ![8, 16, 128, 4, 4, 64]⟩
abbrev S16 : Shape := ⟨1, ![16]⟩
abbrev S16x1 : Shape := ⟨2, ![16, 1]⟩
abbrev S_ : Shape := ⟨0, ![]⟩
abbrev S128 : Shape := ⟨1, ![128]⟩
abbrev S1x128 : Shape := ⟨2, ![1, 128]⟩
abbrev S16x128 : Shape := ⟨2, ![16, 128]⟩
abbrev S256 : Shape := ⟨1, ![256]⟩
abbrev S1x256 : Shape := ⟨2, ![1, 256]⟩
abbrev S16x256 : Shape := ⟨2, ![16, 256]⟩
abbrev S16x128x1 : Shape := ⟨3, ![16, 128, 1]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S8x128x4x64 : Shape := ⟨4, ![8, 128, 4, 64]⟩
abbrev S8x2176x4x64 : Shape := ⟨4, ![8, 2176, 4, 64]⟩
abbrev S8x17x128x4x64 : Shape := ⟨5, ![8, 17, 128, 4, 64]⟩
abbrev S8x16x128x4x64 : Shape := ⟨5, ![8, 16, 128, 4, 64]⟩
abbrev S8x16x256x4x64 : Shape := ⟨5, ![8, 16, 256, 4, 64]⟩
abbrev S8x16x4x256x128x4 : Shape := ⟨6, ![8, 16, 4, 256, 128, 4]⟩
abbrev S8x16x4x4x128x256 : Shape := ⟨6, ![8, 16, 4, 4, 128, 256]⟩
abbrev S4x4x1x1 : Shape := ⟨4, ![4, 4, 1, 1]⟩
abbrev S8x16x4x4x128x1 : Shape := ⟨6, ![8, 16, 4, 4, 128, 1]⟩
abbrev S8x16x4x4x128x257 : Shape := ⟨6, ![8, 16, 4, 4, 128, 257]⟩
abbrev S8x16x4x4x128 : Shape := ⟨5, ![8, 16, 4, 4, 128]⟩
abbrev S8x16x4x64x4x128 : Shape := ⟨6, ![8, 16, 4, 64, 4, 128]⟩

abbrev nBuf : Space → Nat
  | .hbm => 98
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S1x16, .f32⟩
  | .hbm, ⟨3, _⟩ => ⟨S8x2048x256, .f32⟩
  | .hbm, ⟨4, _⟩ => ⟨S8x2048x256, .f32⟩
  | .hbm, ⟨5, _⟩ => ⟨S8x2048x4x4x64, .f32⟩
  | .hbm, ⟨6, _⟩ => ⟨S8x2048x4x64, .f32⟩
  | .hbm, ⟨7, _⟩ => ⟨S8x2048x4x64, .f32⟩
  | .hbm, ⟨8, _⟩ => ⟨S8x16x128x4x4x64, .f32⟩
  | .hbm, ⟨9, _⟩ => ⟨S16, .i32⟩
  | .hbm, ⟨10, _⟩ => ⟨S16x1, .i32⟩
  | .hbm, ⟨11, _⟩ => ⟨S_, .i32⟩
  | .hbm, ⟨12, _⟩ => ⟨S16x1, .i32⟩
  | .hbm, ⟨13, _⟩ => ⟨S16x1, .i32⟩
  | .hbm, ⟨14, _⟩ => ⟨S128, .i32⟩
  | .hbm, ⟨15, _⟩ => ⟨S1x128, .i32⟩
  | .hbm, ⟨16, _⟩ => ⟨S16x128, .i32⟩
  | .hbm, ⟨17, _⟩ => ⟨S16x128, .i32⟩
  | .hbm, ⟨18, _⟩ => ⟨S16x128, .i32⟩
  | .hbm, ⟨19, _⟩ => ⟨S_, .i32⟩
  | .hbm, ⟨20, _⟩ => ⟨S16x1, .i32⟩
  | .hbm, ⟨21, _⟩ => ⟨S16x1, .i32⟩
  | .hbm, ⟨22, _⟩ => ⟨S_, .i32⟩
  | .hbm, ⟨23, _⟩ => ⟨S16x1, .i32⟩
  | .hbm, ⟨24, _⟩ => ⟨S16x1, .i32⟩
  | .hbm, ⟨25, _⟩ => ⟨S256, .i32⟩
  | .hbm, ⟨26, _⟩ => ⟨S1x256, .i32⟩
  | .hbm, ⟨27, _⟩ => ⟨S16x256, .i32⟩
  | .hbm, ⟨28, _⟩ => ⟨S16x256, .i32⟩
  | .hbm, ⟨29, _⟩ => ⟨S16x256, .i32⟩
  | .hbm, ⟨30, _⟩ => ⟨S16x128x1, .i32⟩
  | .hbm, ⟨31, _⟩ => ⟨S16x1x256, .i32⟩
  | .hbm, ⟨32, _⟩ => ⟨S16x128x256, .i32⟩
  | .hbm, ⟨33, _⟩ => ⟨S16x128x256, .i32⟩
  | .hbm, ⟨34, _⟩ => ⟨S16x128x256, .i32⟩
  | .hbm, ⟨35, _⟩ => ⟨S_, .i32⟩
  | .hbm, ⟨36, _⟩ => ⟨S16x128x256, .i32⟩
  | .hbm, ⟨37, _⟩ => ⟨S16x128x256, .i1⟩
  | .hbm, ⟨38, _⟩ => ⟨S_, .i32⟩
  | .hbm, ⟨39, _⟩ => ⟨S16x128x256, .i32⟩
  | .hbm, ⟨40, _⟩ => ⟨S16x128x256, .i1⟩
  | .hbm, ⟨41, _⟩ => ⟨S16x128x256, .i1⟩
  | .hbm, ⟨42, _⟩ => ⟨S16x1x256, .i32⟩
  | .hbm, ⟨43, _⟩ => ⟨S_, .i32⟩
  | .hbm, ⟨44, _⟩ => ⟨S16x1x256, .i32⟩
  | .hbm, ⟨45, _⟩ => ⟨S16x1x256, .i1⟩
  | .hbm, ⟨46, _⟩ => ⟨S16x128x256, .i1⟩
  | .hbm, ⟨47, _⟩ => ⟨S16x128x256, .i1⟩
  | .hbm, ⟨48, _⟩ => ⟨S1x16x1x1x128x256, .i1⟩
  | .hbm, ⟨49, _⟩ => ⟨S8x128x4x64, .f32⟩
  | .hbm, ⟨50, _⟩ => ⟨S_, .f32⟩
  | .hbm, ⟨51, _⟩ => ⟨S8x128x4x64, .f32⟩
  | .hbm, ⟨52, _⟩ => ⟨S8x2176x4x64, .f32⟩
  | .hbm, ⟨53, _⟩ => ⟨S8x17x128x4x64, .f32⟩
  | .hbm, ⟨54, _⟩ => ⟨S8x16x128x4x64, .f32⟩
  | .hbm, ⟨55, _⟩ => ⟨S8x16x128x4x64, .f32⟩
  | .hbm, ⟨56, _⟩ => ⟨S8x16x256x4x64, .f32⟩
  | .hbm, ⟨57, _⟩ => ⟨S8x128x4x64, .f32⟩
  | .hbm, ⟨58, _⟩ => ⟨S_, .f32⟩
  | .hbm, ⟨59, _⟩ => ⟨S8x128x4x64, .f32⟩
  | .hbm, ⟨60, _⟩ => ⟨S8x2176x4x64, .f32⟩
  | .hbm, ⟨61, _⟩ => ⟨S8x17x128x4x64, .f32⟩
  | .hbm, ⟨62, _⟩ => ⟨S8x16x128x4x64, .f32⟩
  | .hbm, ⟨63, _⟩ => ⟨S8x16x128x4x64, .f32⟩
  | .hbm, ⟨64, _⟩ => ⟨S8x16x256x4x64, .f32⟩
  | .hbm, ⟨65, _⟩ => ⟨S8x16x4x256x128x4, .f32⟩
  | .hbm, ⟨66, _⟩ => ⟨S8x16x4x4x128x256, .f32⟩
  | .hbm, ⟨67, _⟩ => ⟨S_, .f32⟩
  | .hbm, ⟨68, _⟩ => ⟨S8x16x4x4x128x256, .f32⟩
  | .hbm, ⟨69, _⟩ => ⟨S8x16x4x4x128x256, .f32⟩
  | .hbm, ⟨70, _⟩ => ⟨S_, .f32⟩
  | .hbm, ⟨71, _⟩ => ⟨S_, .f32⟩
  | .hbm, ⟨72, _⟩ => ⟨S8x16x4x4x128x256, .i1⟩
  | .hbm, ⟨73, _⟩ => ⟨S8x16x4x4x128x256, .f32⟩
  | .hbm, ⟨74, _⟩ => ⟨S8x16x4x4x128x256, .f32⟩
  | .hbm, ⟨75, _⟩ => ⟨S16, .f32⟩
  | .hbm, ⟨76, _⟩ => ⟨S4x4x1x1, .f32⟩
  | .hbm, ⟨77, _⟩ => ⟨S8x16x4x4x128x1, .f32⟩
  | .hbm, ⟨78, _⟩ => ⟨S8x16x4x4x128x257, .f32⟩
  | .hbm, ⟨79, _⟩ => ⟨S_, .f32⟩
  | .hbm, ⟨80, _⟩ => ⟨S8x16x4x4x128, .f32⟩
  | .hbm, ⟨81, _⟩ => ⟨S_, .f32⟩
  | .hbm, ⟨82, _⟩ => ⟨S8x16x4x4x128, .f32⟩
  | .hbm, ⟨83, _⟩ => ⟨S8x16x4x4x128, .f32⟩
  | .hbm, ⟨84, _⟩ => ⟨S8x16x4x4x128x1, .f32⟩
  | .hbm, ⟨85, _⟩ => ⟨S8x16x4x4x128x257, .f32⟩
  | .hbm, ⟨86, _⟩ => ⟨S8x16x4x4x128x257, .f32⟩
  | .hbm, ⟨87, _⟩ => ⟨S8x16x4x4x128x257, .f32⟩
  | .hbm, ⟨88, _⟩ => ⟨S_, .f32⟩
  | .hbm, ⟨89, _⟩ => ⟨S8x16x4x4x128, .f32⟩
  | .hbm, ⟨90, _⟩ => ⟨S8x16x4x4x128x1, .f32⟩
  | .hbm, ⟨91, _⟩ => ⟨S8x16x4x4x128x257, .f32⟩
  | .hbm, ⟨92, _⟩ => ⟨S8x16x4x4x128x257, .f32⟩
  | .hbm, ⟨93, _⟩ => ⟨S8x16x4x4x128x256, .f32⟩
  | .hbm, ⟨94, _⟩ => ⟨S8x16x4x64x4x128, .f32⟩
  | .hbm, ⟨95, _⟩ => ⟨S8x16x128x4x4x64, .f32⟩
  | .hbm, ⟨96, _⟩ => ⟨S8x2048x1024, .f32⟩
  | .hbm, ⟨97, _⟩ => ⟨S8x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c_0 : Ref sig .tc := ⟨.hbm, 19, rfl⟩
abbrev main_v15 : Ref sig .tc := ⟨.hbm, 20, rfl⟩
abbrev main_v16 : Ref sig .tc := ⟨.hbm, 21, rfl⟩
abbrev main_c_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c_2 : Ref sig .tc := ⟨.hbm, 35, rfl⟩
abbrev main_v29 : Ref sig .tc := ⟨.hbm, 36, rfl⟩
abbrev main_v30 : Ref sig .tc := ⟨.hbm, 37, rfl⟩
abbrev main_c_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_4 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_5 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_6 : Ref sig .tc := ⟨.hbm, 67, rfl⟩
abbrev main_v56 : Ref sig .tc := ⟨.hbm, 68, rfl⟩
abbrev main_v57 : Ref sig .tc := ⟨.hbm, 69, rfl⟩
abbrev main_cst_7 : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_8 : Ref sig .tc := ⟨.hbm, 79, rfl⟩
abbrev main_v63 : Ref sig .tc := ⟨.hbm, 80, rfl⟩
abbrev main_cst_9 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_10 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x2048x2048 : Shape := ⟨3, ![8, 2048, 2048]⟩
abbrev S8x1024 : Shape := ⟨2, ![8, 1024]⟩
abbrev S1x1024 : Shape := ⟨2, ![1, 1024]⟩
abbrev S1024 : Shape := ⟨1, ![1024]⟩
abbrev S1x1024x1024 : Shape := ⟨3, ![1, 1024, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S8x1x1024 : Shape := ⟨3, ![8, 1, 1024]⟩
abbrev S1024x1024 : Shape := ⟨2, ![1024, 1024]⟩
abbrev S1024x2816 : Shape := ⟨2, ![1024, 2816]⟩
abbrev S2816x1024 : Shape := ⟨2, ![2816, 1024]⟩
abbrev S3x2816 : Shape := ⟨2, ![3, 2816]⟩
abbrev S8x8x2816 : Shape := ⟨3, ![8, 8, 2816]⟩
abbrev S1x512x1024 : Shape := ⟨3, ![1, 512, 1024]⟩
abbrev S1x512x2048 : Shape := ⟨3, ![1, 512, 2048]⟩
abbrev S1x1x1024 : Shape := ⟨3, ![1, 1, 1024]⟩
abbrev S1x8x2816 : Shape := ⟨3, ![1, 8, 2816]⟩
abbrev S512x2816 : Shape := ⟨2, ![512, 2816]⟩
abbrev S520x256 : Shape := ⟨2, ![520, 256]⟩
abbrev S8x2816 : Shape := ⟨2, ![8, 2816]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S8x256 : Shape := ⟨2, ![8, 256]⟩
abbrev S1x256 : Shape := ⟨2, ![1, 256]⟩

abbrev nBuf : Space → Nat
  | .hbm => 38
  | .vmem => 33
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x2048, .f32⟩
  | .hbm, ⟨3, _⟩ => ⟨S8x2048x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S1x1024, .f32⟩
  | .hbm, ⟨9, _⟩ => ⟨S1024, .f32⟩
  | .hbm, ⟨10, _⟩ => ⟨S1x1024x1024, .f32⟩
  | .hbm, ⟨11, _⟩ => ⟨S1x1024x1024, .f32⟩
  | .hbm, ⟨12, _⟩ => ⟨S1x1024x1024, .f32⟩
  | .hbm, ⟨13, _⟩ => ⟨S1x1024x2816, .f32⟩
  | .hbm, ⟨14, _⟩ => ⟨S1x1024x2816, .f32⟩
  | .hbm, ⟨15, _⟩ => ⟨S1x3x2816, .f32⟩
  | .hbm, ⟨16, _⟩ => ⟨S1x2816, .f32⟩
  | .hbm, ⟨17, _⟩ => ⟨S1x2816x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S1024x1024, .f32⟩
  | .hbm, ⟨23, _⟩ => ⟨S1024x1024, .bf16⟩
  | .hbm, ⟨24, _⟩ => ⟨S1024x1024, .f32⟩
  | .hbm, ⟨25, _⟩ => ⟨S1024x1024, .bf16⟩
  | .hbm, ⟨26, _⟩ => ⟨S1024x1024, .f32⟩
  | .hbm, ⟨27, _⟩ => ⟨S1024x1024, .bf16⟩
  | .hbm, ⟨28, _⟩ => ⟨S1024x2816, .f32⟩
  | .hbm, ⟨29, _⟩ => ⟨S1024x2816, .bf16⟩
  | .hbm, ⟨30, _⟩ => ⟨S1024x2816, .f32⟩
  | .hbm, ⟨31, _⟩ => ⟨S1024x2816, .bf16⟩
  | .hbm, ⟨32, _⟩ => ⟨S2816x1024, .f32⟩
  | .hbm, ⟨33, _⟩ => ⟨S2816x1024, .bf16⟩
  | .hbm, ⟨34, _⟩ => ⟨S1x1024, .f32⟩
  | .hbm, ⟨35, _⟩ => ⟨S3x2816, .f32⟩
  | .hbm, ⟨36, _⟩ => ⟨S8x2048x1024, .f32⟩
  | .hbm, ⟨37, _⟩ => ⟨S8x8x2816, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x2048, .f32⟩
  | .local _ .vmem, ⟨5, _⟩ => ⟨S1x512x2048, .f32⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S1x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x2816, .bf16⟩
  | .local _ .vmem, ⟨22, _⟩ => ⟨S1024x2816, .bf16⟩
  | .local _ .vmem, ⟨23, _⟩ => ⟨S3x2816, .f32⟩
  | .local _ .vmem, ⟨24, _⟩ => ⟨S1x2816, .f32⟩
  | .local _ .vmem, ⟨25, _⟩ => ⟨S2816x1024, .bf16⟩
  | .local _ .vmem, ⟨26, _⟩ => ⟨S1x512x1024, .f32⟩
  | .local _ .vmem, ⟨27, _⟩ => ⟨S1x512x1024, .f32⟩
  | .local _ .vmem, ⟨28, _⟩ => ⟨S1x8x2816, .f32⟩
  | .local _ .vmem, ⟨29, _⟩ => ⟨S1x8x2816, .f32⟩
  | .local _ .vmem, ⟨30, _⟩ => ⟨S512x2816, .bf16⟩
  | .local _ .vmem, ⟨31, _⟩ => ⟨S520x256, .f32⟩
  | .local _ .vmem, ⟨32, _⟩ => ⟨S8x2816, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18_0 : Ref sig .tc := ⟨.hbm, 36, rfl⟩
abbrev main_v18_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem18_1 : DmaSem sig := 27
abbrev cc0_sem19_0 : DmaSem sig := 28
abbrev cc0_sem19_1 : DmaSem sig := 29

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x2816 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S3x2816 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x2816 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S2816x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x8x2816 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== Reference2Ideal.lean ====
abbrev S8x2048x1024 : Shape := ⟨3, ![8, 2048, 1024]⟩
abbrev S8x2048x2048 : Shape := ⟨3, ![8, 2048, 2048]⟩
abbrev S8x1024 : Shape := ⟨2, ![8, 1024]⟩
abbrev S1x1024 : Shape := ⟨2, ![1, 1024]⟩
abbrev S1024 : Shape := ⟨1, ![1024]⟩
abbrev S1x1024x1024 : Shape := ⟨3, ![1, 1024, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S8x1x1024 : Shape := ⟨3, ![8, 1, 1024]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2816 : Shape := ⟨2, ![1024, 2816]⟩
abbrev S8x2048x2816 : Shape := ⟨3, ![8, 2048, 2816]⟩
abbrev S8x2x2816 : Shape := ⟨3, ![8, 2, 2816]⟩
abbrev S8x2050x2816 : Shape := ⟨3, ![8, 2050, 2816]⟩
abbrev S3x2816 : Shape := ⟨2, ![3, 2816]⟩
abbrev S2816 : Shape := ⟨1, ![2816]⟩
abbrev S1x1x2816 : Shape := ⟨3, ![1, 1, 2816]⟩
abbrev S2816x1024 : Shape := ⟨2, ![2816, 1024]⟩
abbrev S8x8x2816 : Shape := ⟨3, ![8, 8, 2816]⟩

abbrev nBuf : Space → Nat
  | .hbm => 145
  | .vmem => 0
  | .smem => 0
  | _ => 0

abbrev hbmTy0_0 (i : Nat) : BufTy := match i % 128 with
  | 0 => ⟨S8x2048x1024, .bf16⟩
  | 1 => ⟨S8x2048x1024, .bf16⟩
  | 2 => ⟨S8x2048x2048, .f32⟩
  | 3 => ⟨S8x2048x1024, .f32⟩
  | 4 => ⟨S8x1024, .f32⟩
  | 5 => ⟨S8x1024, .f32⟩
  | 6 => ⟨S8x1024, .f32⟩
  | 7 => ⟨S8x1024, .f32⟩
  | 8 => ⟨S1x1024, .f32⟩
  | 9 => ⟨S1024, .f32⟩
  | 10 => ⟨S1x1024x1024, .f32⟩
  | 11 => ⟨S1x1024x1024, .f32⟩
  | 12 => ⟨S1x1024x1024, .f32⟩
  | 13 => ⟨S1x1024x2816, .f32⟩
  | 14 => ⟨S1x1024x2816, .f32⟩
  | 15 => ⟨S1x3x2816, .f32⟩
  | 16 => ⟨S1x2816, .f32⟩
  | 17 => ⟨S1x2816x1024, .f32⟩
  | 18 => ⟨S8x1x1024, .f32⟩
  | 19 => ⟨S8x1x1024, .f32⟩
  | 20 => ⟨S8x1x1024, .f32⟩
  | 21 => ⟨S8x1x1024, .f32⟩
  | 22 => ⟨S8x2048x1024, .f32⟩
  | 23 => ⟨S8x2048x1024, .f32⟩
  | 24 => ⟨S8x2048x1024, .f32⟩
  | 25 => ⟨S1024x1024, .f32⟩
  | 26 => ⟨S8x2048x1024, .f32⟩
  | 27 => ⟨S8x2048x1024, .f32⟩
  | 28 => ⟨S1024x1024, .f32⟩
  | 29 => ⟨S8x2048x1024, .f32⟩
  | 30 => ⟨S8x2048x1024, .f32⟩
  | 31 => ⟨S8x2048x1024, .f32⟩
  | 32 => ⟨S_, .f32⟩
  | 33 => ⟨S8x2048x1024, .f32⟩
  | 34 => ⟨S8x2048x1024, .f32⟩
  | 35 => ⟨S_, .f32⟩
  | 36 => ⟨S8x2048x1024, .f32⟩
  | 37 => ⟨S8x2048x1024, .f32⟩
  | 38 => ⟨S8x2048x1024, .f32⟩
  | 39 => ⟨S8x2048x1024, .f32⟩
  | 40 => ⟨S8x2048x1024, .f32⟩
  | 41 => ⟨S_, .f32⟩
  | 42 => ⟨S8x2048x1024, .f32⟩
  | 43 => ⟨S8x2048x1024, .f32⟩
  | 44 => ⟨S_, .f32⟩
  | 45 => ⟨S8x2048x1024, .f32⟩
  | 46 => ⟨S8x2048x1024, .f32⟩
  | 47 => ⟨S8x2048x1024, .f32⟩
  | 48 => ⟨S8x2048x1024, .f32⟩
  | 49 => ⟨S1024x1024, .f32⟩
  | 50 => ⟨S8x2048x1024, .f32⟩
  | 51 => ⟨S8x2048x1024, .f32⟩
  | 52 => ⟨S8x2048x1024, .f32⟩
  | 53 => ⟨S8x2048x1024, .f32⟩
  | 54 => ⟨S1024, .f32⟩
  | 55 => ⟨S8x2048x1024, .f32⟩
  | 56 => ⟨S_, .f32⟩
  | 57 => ⟨S8x2048, .f32⟩
  | 58 => ⟨S8x2048x1, .f32⟩
  | 59 => ⟨S_, .f32⟩
  | 60 => ⟨S8x2048x1, .f32⟩
  | 61 => ⟨S8x2048x1, .f32⟩
  | 62 => ⟨S_, .f32⟩
  | 63 => ⟨S8x2048x1, .f32⟩
  | 64 => ⟨S8x2048x1, .f32⟩
  | 65 => ⟨S8x2048x1, .f32⟩
  | 66 => ⟨S8x2048x1024, .f32⟩
  | 67 => ⟨S8x2048x1024, .f32⟩
  | 68 => ⟨S1x1x1024, .f32⟩
  | 69 => ⟨S8x2048x1024, .f32⟩
  | 70 => ⟨S8x2048x1024, .f32⟩
  | 71 => ⟨S_, .f32⟩
  | 72 => ⟨S8x1x1024, .f32⟩
  | 73 => ⟨S8x1x1024, .f32⟩
  | 74 => ⟨S8x2048x1024, .f32⟩
  | 75 => ⟨S8x2048x1024, .f32⟩
  | 76 => ⟨S8x2048x1024, .f32⟩
  | 77 => ⟨S8x2048x1024, .f32⟩
  | 78 => ⟨S1024x2816, .f32⟩
  | 79 => ⟨S8x2048x2816, .f32⟩
  | 80 => ⟨S1024x2816, .f32⟩
  | 81 => ⟨S8x2048x2816, .f32⟩
  | 82 => ⟨S_, .f32⟩
  | 83 => ⟨S8x2x2816, .f32⟩
  | 84 => ⟨S8x2050x2816, .f32⟩
  | 85 => ⟨S3x2816, .f32⟩
  | 86 => ⟨S1x2816, .f32⟩
  | 87 => ⟨S2816, .f32⟩
  | 88 => ⟨S8x2048x2816, .f32⟩
  | 89 => ⟨S1x1x2816, .f32⟩
  | 90 => ⟨S8x2048x2816, .f32⟩
  | 91 => ⟨S8x2048x2816, .f32⟩
  | 92 => ⟨S_, .f32⟩
  | 93 => ⟨S8x2048x2816, .f32⟩
  | 94 => ⟨S8x2048x2816, .f32⟩
  | 95 => ⟨S1x2816, .f32⟩
  | 96 => ⟨S2816, .f32⟩
  | 97 => ⟨S8x2048x2816, .f32⟩
  | 98 => ⟨S1x1x2816, .f32⟩
  | 99 => ⟨S8x2048x2816, .f32⟩
  | 100 => ⟨S8x2048x2816, .f32⟩
  | 101 => ⟨S8x2048x2816, .f32⟩
  | 102 => ⟨S1x2816, .f32⟩
  | 103 => ⟨S2816, .f32⟩
  | 104 => ⟨S8x2048x2816, .f32⟩
  | 105 => ⟨S1x1x2816, .f32⟩
  | 106 => ⟨S8x2048x2816, .f32⟩
  | 107 => ⟨S8x2048x2816, .f32⟩
  | 108 => ⟨S8x2048x2816, .f32⟩
  | 109 => ⟨S2816, .f32⟩
  | 110 => ⟨S1x1x2816, .f32⟩
  | 111 => ⟨S8x2048x2816, .f32⟩
  | 112 => ⟨S8x2048x2816, .f32⟩
  | 113 => ⟨S8x2048x2816, .f32⟩
  | 114 => ⟨S8x2048x2816, .f32⟩
  | 115 => ⟨S_, .f32⟩
  | 116 => ⟨S8x2048x2816, .f32⟩
  | 117 => ⟨S8x2048x2816, .f32⟩
  | 118 => ⟨S_, .f32⟩
  | 119 => ⟨S8x2048x2816, .f32⟩
  | 120 => ⟨S8x2048x2816, .f32⟩
  | 121 => ⟨S8x2048x2816, .f32⟩
  | 122 => ⟨S8x2048x2816, .f32⟩
  | 123 => ⟨S2816x1024, .f32⟩
  | 124 => ⟨S8x2048x1024, .f32⟩
  | 125 => ⟨S8x2048x1024, .f32⟩
  | 126 => ⟨S8x2048x1024, .f32⟩
  | 127 => ⟨S8x2048x1024, .f32⟩
  | _ => ⟨S8x2048x1024, .bf16⟩

abbrev hbmTy0_1 (i : Nat) : BufTy := match i % 128 with
  | 0 => ⟨S8x2048x1024, .f32⟩
  | 1 => ⟨S_, .f32⟩
  | 2 => ⟨S8x2048, .f32⟩
  | 3 => ⟨S8x2048x1, .f32⟩
  | 4 => ⟨S_, .f32⟩
  | 5 => ⟨S8x2048x1, .f32⟩
  | 6 => ⟨S8x2048x1, .f32⟩
  | 7 => ⟨S_, .f32⟩
  | 8 => ⟨S8x2048x1, .f32⟩
  | 9 => ⟨S8x2048x1, .f32⟩
  | 10 => ⟨S8x2048x1, .f32⟩
  | 11 => ⟨S8x2048x1024, .f32⟩
  | 12 => ⟨S8x2048x1024, .f32⟩
  | 13 => ⟨S1x1x1024, .f32⟩
  | 14 => ⟨S8x2048x1024, .f32⟩
  | 15 => ⟨S8x2048x1024, .f32⟩
  | 16 => ⟨S8x8x2816, .f32⟩
  | _ => ⟨S8x2048x1024, .bf16⟩

abbrev hbmTy (i : Nat) : BufTy := match i / 128 with
  | 0 => hbmTy0_0 i
  | 1 => hbmTy0_1 i
  | _ => ⟨S8x2048x1024, .bf16⟩

abbrev bufTy : (tb : Table) → Fin (tcTables nBuf tb) → BufTy
  | .hbm, ⟨i, _⟩ => hbmTy i
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_cst_0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_1 : Ref sig .tc := ⟨.hbm, 41, rfl⟩
abbrev main_v21 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_3 : Ref sig .tc := ⟨.hbm, 56, rfl⟩
abbrev main_v34 : Ref sig .tc := ⟨.hbm, 57, rfl⟩
abbrev main_v35 : Ref sig .tc := ⟨.hbm, 58, rfl⟩
abbrev main_cst_4 : Ref sig .tc := ⟨.hbm, 59, rfl⟩
abbrev main_v36 : Ref sig .tc := ⟨.hbm, 60, rfl⟩
abbrev main_v37 : Ref sig .tc := ⟨.hbm, 61, rfl⟩
abbrev main_cst_5 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_6 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_7 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_8 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_call0_v0 : Ref sig .tc := ⟨.hbm, 113, rfl⟩
abbrev main_call0_v1 : Ref sig .tc := ⟨.hbm, 114, rfl⟩
abbrev main_call0_cst : Ref sig .tc := ⟨.hbm, 115, rfl⟩
abbrev main_call0_v2 : Ref sig .tc := ⟨.hbm, 116, rfl⟩
abbrev main_call0_v3 : Ref sig .tc := ⟨.hbm, 117, rfl⟩
abbrev main_call0_cst_0 : Ref sig .tc := ⟨.hbm, 118, rfl⟩
abbrev main_call0_v4 : Ref sig .tc := ⟨.hbm, 119, rfl⟩
abbrev main_call0_v5 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_9 : Ref sig .tc := ⟨.hbm, 129, rfl⟩
abbrev main_v93 : Ref sig .tc := ⟨.hbm, 130, rfl⟩
abbrev main_v94 : Ref sig .tc := ⟨.hbm, 131, rfl⟩
abbrev main_cst_10 : Ref sig .tc := ⟨.hbm, 132, rfl⟩
abbrev main_v95 : Ref sig .tc := ⟨.hbm, 133, rfl⟩
abbrev main_v96 : Ref sig .tc := ⟨.hbm, 134, rfl⟩
abbrev main_cst_11 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩

abbrev nD : Nat := 1
abbrev τ : Topo := Topo.v7x

variable {F : FTy → Type} [FloatOps F]
-- ==== Kernel3.lean ====
abbrev S128x1x8x128 : Shape := ⟨4, ![128, 1, 8, 128]⟩
abbrev S128x1x1024 : Shape := ⟨3, ![128, 1, 1024]⟩
abbrev S128x1x2048 : Shape := ⟨3, ![128, 1, 2048]⟩
abbrev S128x1024 : Shape := ⟨2, ![128, 1024]⟩
abbrev S1x128x2x2816 : Shape := ⟨4, ![1, 128, 2, 2816]⟩
abbrev S1x128 : Shape := ⟨2, ![1, 128]⟩
abbrev S1x1024 : Shape := ⟨2, ![1, 1024]⟩
abbrev S1024 : Shape := ⟨1, ![1024]⟩
abbrev S1x1024x1024 : Shape := ⟨3, ![1, 1024, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S1x128x1024 : Shape := ⟨3, ![1, 128, 1024]⟩
abbrev S1024x1024 : Shape := ⟨2, ![1024, 1024]⟩
abbrev S1024x2816 : Shape := ⟨2, ![1024, 2816]⟩
abbrev S2816x1024 : Shape := ⟨2, ![2816, 1024]⟩
abbrev S3x2816 : Shape := ⟨2, ![3, 2816]⟩
abbrev S128x8x128 : Shape := ⟨3, ![128, 8, 128]⟩
abbrev S128x2x2816 : Shape := ⟨3, ![128, 2, 2816]⟩
abbrev S2x128x2816 : Shape := ⟨3, ![2, 128, 2816]⟩
abbrev S2x1x128x2816 : Shape := ⟨4, ![2, 1, 128, 2816]⟩
abbrev S8x128x128 : Shape := ⟨3, ![8, 128, 128]⟩
abbrev S1x128x2048 : Shape := ⟨3, ![1, 128, 2048]⟩
abbrev S1x128x2816 : Shape := ⟨3, ![1, 128, 2816]⟩
abbrev S128x2816 : Shape := ⟨2, ![128, 2816]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩
abbrev S1024x256 : Shape := ⟨2, ![1024, 256]⟩
abbrev S128x256 : Shape := ⟨2, ![128, 256]⟩
abbrev S1x1x128x256 : Shape := ⟨4, ![1, 1, 128, 256]⟩
abbrev S1x128x256 : Shape := ⟨3, ![1, 128, 256]⟩
abbrev S1x256 : Shape := ⟨2, ![1, 256]⟩

abbrev nBuf : Space → Nat
  | .hbm => 51
  | .vmem => 24
  | .smem => 0
  | _ => 0

abbrev bufTy : (tb : Table) → Fin (tcTables nBuf tb) → BufTy
  | .hbm, ⟨0, _⟩ => ⟨S128x1x8x128, .f32⟩
  | .hbm, ⟨1, _⟩ => ⟨S128x1x1024, .f32⟩
  | .hbm, ⟨2, _⟩ => ⟨S128x1x1024, .f32⟩
  | .hbm, ⟨3, _⟩ => ⟨S128x1x2048, .f32⟩
  | .hbm, ⟨4, _⟩ => ⟨S128x1x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S1x128x2x2816, .f32⟩
  | .hbm, ⟨10, _⟩ => ⟨S1x128, .f32⟩
  | .hbm, ⟨11, _⟩ => ⟨S1x1024, .f32⟩
  | .hbm, ⟨12, _⟩ => ⟨S1024, .f32⟩
  | .hbm, ⟨13, _⟩ => ⟨S1x1024x1024, .f32⟩
  | .hbm, ⟨14, _⟩ => ⟨S1x1024x1024, .f32⟩
  | .hbm, ⟨15, _⟩ => ⟨S1x1024x1024, .f32⟩
  | .hbm, ⟨16, _⟩ => ⟨S1x1024x2816, .f32⟩
  | .hbm, ⟨17, _⟩ => ⟨S1x1024x2816, .f32⟩
  | .hbm, ⟨18, _⟩ => ⟨S1x3x2816, .f32⟩
  | .hbm, ⟨19, _⟩ => ⟨S1x2816, .f32⟩
  | .hbm, ⟨20, _⟩ => ⟨S1x2816x1024, .f32⟩
  | .hbm, ⟨21, _⟩ => ⟨S1x128x1024, .f32⟩
  | .hbm, ⟨22, _⟩ => ⟨S1x128x1024, .f32⟩
  | .hbm, ⟨23, _⟩ => ⟨S1x128x1024, .f32⟩
  | .hbm, ⟨24, _⟩ => ⟨S1x128x1024, .f32⟩
  | .hbm, ⟨25, _⟩ => ⟨S1024x1024, .f32⟩
  | .hbm, ⟨26, _⟩ => ⟨S1024x1024, .bf16⟩
  | .hbm, ⟨27, _⟩ => ⟨S1024x1024, .f32⟩
  | .hbm, ⟨28, _⟩ => ⟨S1024x1024, .bf16⟩
  | .hbm, ⟨29, _⟩ => ⟨S1024x1024, .f32⟩
  | .hbm, ⟨30, _⟩ => ⟨S1024x1024, .bf16⟩
  | .hbm, ⟨31, _⟩ => ⟨S1024x2816, .f32⟩
  | .hbm, ⟨32, _⟩ => ⟨S1024x2816, .bf16⟩
  | .hbm, ⟨33, _⟩ => ⟨S1024x2816, .f32⟩
  | .hbm, ⟨34, _⟩ => ⟨S1024x2816, .bf16⟩
  | .hbm, ⟨35, _⟩ => ⟨S2816x1024, .f32⟩
  | .hbm, ⟨36, _⟩ => ⟨S2816x1024, .bf16⟩
  | .hbm, ⟨37, _⟩ => ⟨S1x1024, .f32⟩
  | .hbm, ⟨38, _⟩ => ⟨S3x2816, .f32⟩
  | .hbm, ⟨39, _⟩ => ⟨S128x8x128, .f32⟩
  | .hbm, ⟨40, _⟩ => ⟨S1x128x1024, .f32⟩
  | .hbm, ⟨41, _⟩ => ⟨S1x128x1024, .bf16⟩
  | .hbm, ⟨42, _⟩ => ⟨S128x2x2816, .f32⟩
  | .hbm, ⟨43, _⟩ => ⟨S2x128x2816, .f32⟩
  | .hbm, ⟨44, _⟩ => ⟨S2x1x128x2816, .f32⟩
  | .hbm, ⟨45, _⟩ => ⟨S8x128x128, .f32⟩
  | .hbm, ⟨46, _⟩ => ⟨S1x128x2048, .f32⟩
  | .hbm, ⟨47, _⟩ => ⟨S1x128x1024, .f32⟩
  | .hbm, ⟨48, _⟩ => ⟨S1x128x1024, .f32⟩
  | .hbm, ⟨49, _⟩ => ⟨S1x128x1024, .f32⟩
  | .hbm, ⟨50, _⟩ => ⟨S1x128x2816, .f32⟩
  | .local _ .vmem, ⟨0, _⟩ => ⟨S8x128x128, .f32⟩
  | .local _ .vmem, ⟨1, _⟩ => ⟨S1x128x1024, .bf16⟩
  | .local _ .vmem, ⟨2, _⟩ => ⟨S1x128x2048, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x2816, .bf16⟩
  | .local _ .vmem, ⟨14, _⟩ => ⟨S1024x2816, .bf16⟩
  | .local _ .vmem, ⟨15, _⟩ => ⟨S3x2816, .f32⟩
  | .local _ .vmem, ⟨16, _⟩ => ⟨S1x2816, .f32⟩
  | .local _ .vmem, ⟨17, _⟩ => ⟨S2816x1024, .bf16⟩
  | .local _ .vmem, ⟨18, _⟩ => ⟨S2x1x128x2816, .f32⟩
  | .local _ .vmem, ⟨19, _⟩ => ⟨S1x128x1024, .f32⟩
  | .local _ .vmem, ⟨20, _⟩ => ⟨S1x128, .f32⟩
  | .local _ .vmem, ⟨21, _⟩ => ⟨S1x128x1024, .f32⟩
  | .local _ .vmem, ⟨22, _⟩ => ⟨S1x128x2816, .f32⟩
  | .local _ .vmem, ⟨23, _⟩ => ⟨S128x2816, .bf16⟩
  | _, _ => ⟨S128x1x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28_0 : Ref sig .tc := ⟨.hbm, 49, rfl⟩
abbrev main_v28_1 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_scratch0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x2816 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S3x2816 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x2816 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S2816x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S2x1x128x2816 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true, true]

abbrev stage0_19 : Fin 1 → Memref sig .tc .vmem S1x128x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true, true]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1x128x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true, true]

abbrev stage0_22 : Fin 1 → Memref sig .tc .vmem S1x128x2816 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true, true]
-- ==== Reference3Ideal.lean ====
abbrev S128x1x8x128 : Shape := ⟨4, ![128, 1, 8, 128]⟩
abbrev S128x1x1024 : Shape := ⟨3, ![128, 1, 1024]⟩
abbrev S128x1x2048 : Shape := ⟨3, ![128, 1, 2048]⟩
abbrev S128x1024 : Shape := ⟨2, ![128, 1024]⟩
abbrev S1x128x2x2816 : Shape := ⟨4, ![1, 128, 2, 2816]⟩
abbrev S1x128 : Shape := ⟨2, ![1, 128]⟩
abbrev S1x1024 : Shape := ⟨2, ![1, 1024]⟩
abbrev S1024 : Shape := ⟨1, ![1024]⟩
abbrev S1x1024x1024 : Shape := ⟨3, ![1, 1024, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S128 : Shape := ⟨1, ![128]⟩
abbrev S_ : Shape := ⟨0, ![]⟩
abbrev S128x1x8 : Shape := ⟨3, ![128, 1, 8]⟩
abbrev S128x1x8x1 : Shape := ⟨4, ![128, 1, 8, 1]⟩
abbrev S1x1x1x128 : Shape := ⟨4, ![1, 1, 1, 128]⟩
abbrev S1024x1024 : Shape := ⟨2, ![1024, 1024]⟩
abbrev S128x1 : Shape := ⟨2, ![128, 1]⟩
abbrev S128x1x1 : Shape := ⟨3, ![128, 1, 1]⟩
abbrev S1x1x1024 : Shape := ⟨3, ![1, 1, 1024]⟩
abbrev S1024x2816 : Shape := ⟨2, ![1024, 2816]⟩
abbrev S128x1x2816 : Shape := ⟨3, ![128, 1, 2816]⟩
abbrev S128x2x2816 : Shape := ⟨3, ![128, 2, 2816]⟩
abbrev S128x3x2816 : Shape := ⟨3, ![128, 3, 2816]⟩
abbrev S3x2816 : Shape := ⟨2, ![3, 2816]⟩
abbrev S2816 : Shape := ⟨1, ![2816]⟩
abbrev S1x1x2816 : Shape := ⟨3, ![1, 1, 2816]⟩
abbrev S2816x1024 : Shape := ⟨2, ![2816, 1024]⟩
abbrev S1x128x1024 : Shape := ⟨3, ![1, 128, 1024]⟩
abbrev S1x128x2816 : Shape := ⟨3, ![1, 128, 2816]⟩

abbrev nBuf : Space → Nat
  | .hbm => 171
  | .vmem => 0
  | .smem => 0
  | _ => 0

abbrev hbmTy0_0 (i : Nat) : BufTy := match i % 128 with
  | 0 => ⟨S128x1x8x128, .f32⟩
  | 1 => ⟨S128x1x1024, .f32⟩
  | 2 => ⟨S128x1x1024, .f32⟩
  | 3 => ⟨S128x1x2048, .f32⟩
  | 4 => ⟨S128x1x1024, .f32⟩
  | 5 => ⟨S128x1024, .f32⟩
  | 6 => ⟨S128x1024, .f32⟩
  | 7 => ⟨S128x1024, .f32⟩
  | 8 => ⟨S128x1024, .f32⟩
  | 9 => ⟨S1x128x2x2816, .f32⟩
  | 10 => ⟨S1x128, .f32⟩
  | 11 => ⟨S1x1024, .f32⟩
  | 12 => ⟨S1024, .f32⟩
  | 13 => ⟨S1x1024x1024, .f32⟩
  | 14 => ⟨S1x1024x1024, .f32⟩
  | 15 => ⟨S1x1024x1024, .f32⟩
  | 16 => ⟨S1x1024x2816, .f32⟩
  | 17 => ⟨S1x1024x2816, .f32⟩
  | 18 => ⟨S1x3x2816, .f32⟩
  | 19 => ⟨S1x2816, .f32⟩
  | 20 => ⟨S1x2816x1024, .f32⟩
  | 21 => ⟨S128x1x1024, .f32⟩
  | 22 => ⟨S128x1x1024, .f32⟩
  | 23 => ⟨S128x1x1024, .f32⟩
  | 24 => ⟨S128x1x1024, .f32⟩
  | 25 => ⟨S128x1x1024, .f32⟩
  | 26 => ⟨S128x1x1024, .f32⟩
  | 27 => ⟨S128, .f32⟩
  | 28 => ⟨S128x1x8x128, .f32⟩
  | 29 => ⟨S_, .f32⟩
  | 30 => ⟨S128x1x8, .f32⟩
  | 31 => ⟨S128x1x8x1, .f32⟩
  | 32 => ⟨S_, .f32⟩
  | 33 => ⟨S128x1x8x1, .f32⟩
  | 34 => ⟨S128x1x8x1, .f32⟩
  | 35 => ⟨S_, .f32⟩
  | 36 => ⟨S128x1x8x1, .f32⟩
  | 37 => ⟨S128x1x8x1, .f32⟩
  | 38 => ⟨S128x1x8x1, .f32⟩
  | 39 => ⟨S128x1x8x128, .f32⟩
  | 40 => ⟨S128x1x8x128, .f32⟩
  | 41 => ⟨S1x1x1x128, .f32⟩
  | 42 => ⟨S128x1x8x128, .f32⟩
  | 43 => ⟨S128x1x8x128, .f32⟩
  | 44 => ⟨S128x1x1024, .f32⟩
  | 45 => ⟨S128x1x1024, .f32⟩
  | 46 => ⟨S_, .f32⟩
  | 47 => ⟨S128x1x1024, .f32⟩
  | 48 => ⟨S128x1x1024, .f32⟩
  | 49 => ⟨S_, .f32⟩
  | 50 => ⟨S128x1x1024, .f32⟩
  | 51 => ⟨S128x1x1024, .f32⟩
  | 52 => ⟨S128x1x1024, .f32⟩
  | 53 => ⟨S128x1x8x128, .f32⟩
  | 54 => ⟨S128x1x8x128, .f32⟩
  | 55 => ⟨S128x1x1024, .f32⟩
  | 56 => ⟨S1024x1024, .f32⟩
  | 57 => ⟨S128x1x1024, .f32⟩
  | 58 => ⟨S1024x1024, .f32⟩
  | 59 => ⟨S128x1x1024, .f32⟩
  | 60 => ⟨S128x1x1024, .f32⟩
  | 61 => ⟨S128x1x1024, .f32⟩
  | 62 => ⟨S_, .f32⟩
  | 63 => ⟨S128x1x1024, .f32⟩
  | 64 => ⟨S128x1x1024, .f32⟩
  | 65 => ⟨S_, .f32⟩
  | 66 => ⟨S128x1x1024, .f32⟩
  | 67 => ⟨S128x1x1024, .f32⟩
  | 68 => ⟨S128x1x1024, .f32⟩
  | 69 => ⟨S128x1x1024, .f32⟩
  | 70 => ⟨S128x1x1024, .f32⟩
  | 71 => ⟨S_, .f32⟩
  | 72 => ⟨S128x1x1024, .f32⟩
  | 73 => ⟨S128x1x1024, .f32⟩
  | 74 => ⟨S_, .f32⟩
  | 75 => ⟨S128x1x1024, .f32⟩
  | 76 => ⟨S128x1x1024, .f32⟩
  | 77 => ⟨S128x1x1024, .f32⟩
  | 78 => ⟨S128x1x1024, .f32⟩
  | 79 => ⟨S1024x1024, .f32⟩
  | 80 => ⟨S128x1x1024, .f32⟩
  | 81 => ⟨S128x1x1024, .f32⟩
  | 82 => ⟨S128x1x1024, .f32⟩
  | 83 => ⟨S1024, .f32⟩
  | 84 => ⟨S128x1x1024, .f32⟩
  | 85 => ⟨S_, .f32⟩
  | 86 => ⟨S128x1, .f32⟩
  | 87 => ⟨S128x1x1, .f32⟩
  | 88 => ⟨S_, .f32⟩
  | 89 => ⟨S128x1x1, .f32⟩
  | 90 => ⟨S128x1x1, .f32⟩
  | 91 => ⟨S_, .f32⟩
  | 92 => ⟨S128x1x1, .f32⟩
  | 93 => ⟨S128x1x1, .f32⟩
  | 94 => ⟨S128x1x1, .f32⟩
  | 95 => ⟨S128x1x1024, .f32⟩
  | 96 => ⟨S128x1x1024, .f32⟩
  | 97 => ⟨S1x1x1024, .f32⟩
  | 98 => ⟨S128x1x1024, .f32⟩
  | 99 => ⟨S128x1x1024, .f32⟩
  | 100 => ⟨S_, .f32⟩
  | 101 => ⟨S128x1x1024, .f32⟩
  | 102 => ⟨S128x1x1024, .f32⟩
  | 103 => ⟨S128x1x1024, .f32⟩
  | 104 => ⟨S128x1x1024, .f32⟩
  | 105 => ⟨S1024x2816, .f32⟩
  | 106 => ⟨S128x1x2816, .f32⟩
  | 107 => ⟨S1024x2816, .f32⟩
  | 108 => ⟨S128x1x2816, .f32⟩
  | 109 => ⟨S128x2x2816, .f32⟩
  | 110 => ⟨S128x3x2816, .f32⟩
  | 111 => ⟨S3x2816, .f32⟩
  | 112 => ⟨S1x2816, .f32⟩
  | 113 => ⟨S2816, .f32⟩
  | 114 => ⟨S128x1x2816, .f32⟩
  | 115 => ⟨S1x1x2816, .f32⟩
  | 116 => ⟨S128x1x2816, .f32⟩
  | 117 => ⟨S128x1x2816, .f32⟩
  | 118 => ⟨S_, .f32⟩
  | 119 => ⟨S128x1x2816, .f32⟩
  | 120 => ⟨S128x1x2816, .f32⟩
  | 121 => ⟨S1x2816, .f32⟩
  | 122 => ⟨S2816, .f32⟩
  | 123 => ⟨S128x1x2816, .f32⟩
  | 124 => ⟨S1x1x2816, .f32⟩
  | 125 => ⟨S128x1x2816, .f32⟩
  | 126 => ⟨S128x1x2816, .f32⟩
  | 127 => ⟨S128x1x2816, .f32⟩
  | _ => ⟨S128x1x8x128, .f32⟩

abbrev hbmTy0_1 (i : Nat) : BufTy := match i % 128 with
  | 0 => ⟨S1x2816, .f32⟩
  | 1 => ⟨S2816, .f32⟩
  | 2 => ⟨S128x1x2816, .f32⟩
  | 3 => ⟨S1x1x2816, .f32⟩
  | 4 => ⟨S128x1x2816, .f32⟩
  | 5 => ⟨S128x1x2816, .f32⟩
  | 6 => ⟨S128x1x2816, .f32⟩
  | 7 => ⟨S2816, .f32⟩
  | 8 => ⟨S1x1x2816, .f32⟩
  | 9 => ⟨S128x1x2816, .f32⟩
  | 10 => ⟨S128x1x2816, .f32⟩
  | 11 => ⟨S128x1x2816, .f32⟩
  | 12 => ⟨S128x1x2816, .f32⟩
  | 13 => ⟨S_, .f32⟩
  | 14 => ⟨S128x1x2816, .f32⟩
  | 15 => ⟨S128x1x2816, .f32⟩
  | 16 => ⟨S_, .f32⟩
  | 17 => ⟨S128x1x2816, .f32⟩
  | 18 => ⟨S128x1x2816, .f32⟩
  | 19 => ⟨S128x1x2816, .f32⟩
  | 20 => ⟨S128x1x2816, .f32⟩
  | 21 => ⟨S2816x1024, .f32⟩
  | 22 => ⟨S128x1x1024, .f32⟩
  | 23 => ⟨S128x1x1024, .f32⟩
  | 24 => ⟨S128x1x1024, .f32⟩
  | 25 => ⟨S128x1x1024, .f32⟩
  | 26 => ⟨S_, .f32⟩
  | 27 => ⟨S128x1, .f32⟩
  | 28 => ⟨S128x1x1, .f32⟩
  | 29 => ⟨S_, .f32⟩
  | 30 => ⟨S128x1x1, .f32⟩
  | 31 => ⟨S128x1x1, .f32⟩
  | 32 => ⟨S_, .f32⟩
  | 33 => ⟨S128x1x1, .f32⟩
  | 34 => ⟨S128x1x1, .f32⟩
  | 35 => ⟨S128x1x1, .f32⟩
  | 36 => ⟨S128x1x1024, .f32⟩
  | 37 => ⟨S128x1x1024, .f32⟩
  | 38 => ⟨S1x1x1024, .f32⟩
  | 39 => ⟨S128x1x1024, .f32⟩
  | 40 => ⟨S128x1x1024, .f32⟩
  | 41 => ⟨S1x128x1024, .f32⟩
  | 42 => ⟨S1x128x2816, .f32⟩
  | _ => ⟨S128x1x8x128, .f32⟩

abbrev hbmTy (i : Nat) : BufTy := match i / 128 with
  | 0 => hbmTy0_0 i
  | 1 => hbmTy0_1 i
  | _ => ⟨S128x1x8x128, .f32⟩

abbrev bufTy : (tb : Table) → Fin (tcTables nBuf tb) → BufTy
  | .hbm, ⟨i, _⟩ => hbmTy i
  | _, _ => ⟨S128x1x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_v10 : Ref sig .tc := ⟨.hbm, 33, rfl⟩
abbrev main_v11 : Ref sig .tc := ⟨.hbm, 34, rfl⟩
abbrev main_cst_1 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_2 : Ref sig .tc := ⟨.hbm, 62, rfl⟩
abbrev main_v30 : Ref sig .tc := ⟨.hbm, 63, rfl⟩
abbrev main_v31 : Ref sig .tc := ⟨.hbm, 64, rfl⟩
abbrev main_cst_3 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_4 : Ref sig .tc := ⟨.hbm, 71, rfl⟩
abbrev main_v37 : Ref sig .tc := ⟨.hbm, 72, rfl⟩
abbrev main_v38 : Ref sig .tc := ⟨.hbm, 73, rfl⟩
abbrev main_cst_5 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_6 : Ref sig .tc := ⟨.hbm, 85, rfl⟩
abbrev main_v49 : Ref sig .tc := ⟨.hbm, 86, rfl⟩
abbrev main_v50 : Ref sig .tc := ⟨.hbm, 87, rfl⟩
abbrev main_cst_7 : Ref sig .tc := ⟨.hbm, 88, rfl⟩
abbrev main_v51 : Ref sig .tc := ⟨.hbm, 89, rfl⟩
abbrev main_v52 : Ref sig .tc := ⟨.hbm, 90, rfl⟩
abbrev main_cst_8 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_9 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_10 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_call1_v0 : Ref sig .tc := ⟨.hbm, 139, rfl⟩
abbrev main_call1_v1 : Ref sig .tc := ⟨.hbm, 140, rfl⟩
abbrev main_call1_cst : Ref sig .tc := ⟨.hbm, 141, rfl⟩
abbrev main_call1_v2 : Ref sig .tc := ⟨.hbm, 142, rfl⟩
abbrev main_call1_v3 : Ref sig .tc := ⟨.hbm, 143, rfl⟩
abbrev main_call1_cst_0 : Ref sig .tc := ⟨.hbm, 144, rfl⟩
abbrev main_call1_v4 : Ref sig .tc := ⟨.hbm, 145, rfl⟩
abbrev main_call1_v5 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_cst_11 : Ref sig .tc := ⟨.hbm, 154, rfl⟩
abbrev main_v105 : Ref sig .tc := ⟨.hbm, 155, rfl⟩
abbrev main_v106 : Ref sig .tc := ⟨.hbm, 156, rfl⟩
abbrev main_cst_12 : Ref sig .tc := ⟨.hbm, 157, rfl⟩
abbrev main_v107 : Ref sig .tc := ⟨.hbm, 158, rfl⟩
abbrev main_v108 : Ref sig .tc := ⟨.hbm, 159, rfl⟩
abbrev main_cst_13 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩

abbrev nD : Nat := 1
abbrev τ : Topo := Topo.v7x

variable {F : FTy → Type} [FloatOps F]
-- ==== Proof.SwaTile.lean ====
/-
  The attention kernel's body as one tile, written once. The body walks 4 query blocks × 4 key heads × 2 query head
  pairs, and every turn computes the same tile from other loads: `outTile` is that tile, numbered by the query block
  and the column tile it writes, and `pieces_eq` says that the stores of the generated run are these tiles.
-/
module

public import proofs.«01_k».proof.Proof.Gen.KernelIdeal.Value

@[expose] public section

noncomputable section

namespace Cert.Swa

open Idealize.ShloMosaic Idealize.ShloMosaic.TcCoe Idealize.SL.Sem
open Cert.KernelIdeal Cert.KernelIdeal.Gen

set_option maxRecDepth 16384

/-- Lanes below 64. -/
def loLane : IVec S128x128 1 := cmpi .slt (iota .tc S128x128 32 [1] iota_S128x128_d1_w32) (broadcast S128x128 64#32)

/-- Rows below 64. -/
def loRow : IVec S128x128 1 := cmpi .slt (iota .tc S128x128 32 [0] iota_S128x128_d0_w32) (broadcast S128x128 64#32)

/-- Key row `c` of the folded band belongs to the previous block for query `i` when `c > i`. -/
def fromPrev : IVec S128x256 1 :=
  cmpi .sgt (iota .tc S128x256 32 [0] iota_S128x256_d0_w32)
    (andi (iota .tc S128x256 32 [1] iota_S128x256_d1_w32) (broadcast S128x256 127#32))

/-- Key block `j` of the five the step holds, at column tile `o`: block 0 is the block before the step's rows. -/
def kvBlk (x2 : Vec Ideal S1x128x512 .f32) (x3 : Vec Ideal S1x512x512 .f32) (j o : Nat) (hj : j < 5) (ho : o < 4) :
    Vec Ideal S1x128x128 .f32 :=
  match j, hj with
  | 0, _ => View.ld x2 (Rect.unit (s := S1x128x512) ![0, 0, o * 128] S1x128x128.size
      (by intro a; fin_cases a <;> simp <;> omega))
  | j + 1, hj => View.ld x3 (Rect.unit (s := S1x512x512) ![0, j * 128, o * 128] S1x128x128.size
      (by intro a; fin_cases a <;> simp <;> omega))

/-- The query tile of query block `qb` at column tile `o`. -/
def qBlk (x1 : Vec Ideal S1x512x1024 .f32) (qb o : Nat) (hq : qb < 4) (ho : o < 8) : Vec Ideal S1x128x128 .f32 :=
  View.ld x1 (Rect.unit (s := S1x512x1024) ![0, qb * 128, o * 128] S1x128x128.size
    (by intro a; fin_cases a <;> simp <;> omega))

/-- A key tile: as it is, or with its two heads of 64 lanes exchanged. -/
def kTile (swap : Bool) (x : Vec Ideal S1x128x128 .f32) : FVec Ideal S128x128 .bf16 :=
  match swap with
  | false => truncf .bf16 (shapeCast S128x128 x shapeCasts_S1x128x128_S128x128) bitsLt_bf16_f32
  | true => truncf .bf16 (dynamicRotate 1 64#32 none (shapeCast S128x128 x shapeCasts_S1x128x128_S128x128)
      rotates_S128x128_d1) bitsLt_bf16_f32

/-- A value tile transposed: as it is, or with its two heads of 64 rows exchanged. -/
def vTile (swap : Bool) (x : Vec Ideal S1x128x128 .f32) : FVec Ideal S128x128 .bf16 :=
  let vt : FVec Ideal S128x128 .f32 :=
    transpose S128x128 [1, 0] (shapeCast S128x128 x shapeCasts_S1x128x128_S128x128) transposes_S128x128_p1_0_S128x128
  match swap with
  | false => truncf .bf16 vt bitsLt_bf16_f32
  | true => truncf .bf16 (concatenate S128x128 0
      [⟨S64x128, extractStridedSlice S64x128 ![64, 0] vt slices_S128x128_o64_0_S64x128⟩,
       ⟨S64x128, extractStridedSlice S64x128 ![0, 0] vt slices_S128x128_o0_0_S64x128⟩]
      concatenates_S64x128_S64x128_S128x128_d0) bitsLt_bf16_f32

/-- One query tile scaled, with the lanes outside `keep` zero. -/
def qMask (keep : IVec S128x128 1) (x : Vec Ideal S1x128x128 .f32) : FVec Ideal S128x128 .f32 :=
  select keep (mulf (shapeCast S128x128 x shapeCasts_S1x128x128_S128x128)
    (broadcast S128x128 (Named.named κ "q_scale" 0x3E38AA3B#32)))
    (broadcast S128x128 (Scalar.ofBits .f32 0x00000000#32))

/-- The lanes of head parity `p`. -/
def keep (p : Bool) : IVec S128x128 1 :=
  match p with
  | false => loLane
  | true => xori loLane (constantI S128x128 1 1#1)

/-- The two query tiles of a pair, one above the other. -/
def qm (p : Bool) (a b : Vec Ideal S1x128x128 .f32) : FVec Ideal S256x128 .bf16 :=
  truncf .bf16 (concatenate S256x128 0 [⟨S128x128, qMask (keep p) a⟩, ⟨S128x128, qMask (keep p) b⟩]
    concatenates_S128x128_S128x128_S256x128_d0) bitsLt_bf16_f32

/-- The scores transposed: key rows of the two blocks by the queries of the two tiles. -/
def st (kp kc : FVec Ideal S128x128 .bf16) (q : FVec Ideal S256x128 .bf16) : FVec Ideal S256x256 .f32 :=
  matmul dot_S256x128_S256x128_S256x256_1_1_0_0_n_n none
    (concatenate S256x128 0 [⟨S128x128, kp⟩, ⟨S128x128, kc⟩] concatenates_S128x128_S128x128_S256x128_d0)
    q (constant S256x256 .f32 0x00000000#32)

/-- The previous block's scores, which are −∞ for the first block of the array. -/
def prevScore (n : Nat) (qb : Nat) (s : FVec Ideal S256x256 .f32) : FVec Ideal S128x256 .f32 :=
  match qb with
  | 0 => Scalar.select (Scalar.cmpi .sgt (BitVec.ofNat 32 n) 0#32)
      (extractStridedSlice S128x256 ![0, 0] s slices_S256x256_o0_0_S128x256)
      (broadcast S128x256 (Scalar.ofBits .f32 0xFF800000#32))
  | _ + 1 => extractStridedSlice S128x256 ![0, 0] s slices_S256x256_o0_0_S128x256

/-- The folded band of scores. -/
def folded (n qb : Nat) (s : FVec Ideal S256x256 .f32) : FVec Ideal S128x256 .f32 :=
  select fromPrev (prevScore n qb s) (extractStridedSlice S128x256 ![128, 0] s slices_S256x256_o128_0_S128x256)

/-- The sink scores of the pair, one lane per query. -/
def sinkRow (a b : Ideal .f32) : FVec Ideal S1x256 .f32 :=
  concatenate S1x256 1
    [⟨S1x128, broadcast S1x128 (Scalar.mulf a (Named.named κ "log2e" 0x3FB8AA3B#32))⟩,
     ⟨S1x128, broadcast S1x128 (Scalar.mulf b (Named.named κ "log2e" 0x3FB8AA3B#32))⟩]
    concatenates_S1x128_S1x128_S1x256_d1

/-- The row of maxima. -/
def mRow (u : FVec Ideal S128x256 .f32) (s : FVec Ideal S1x256 .f32) : FVec Ideal S1x256 .f32 :=
  maximumf (shapeCast S1x256 (multiReduction .maximumf [0] S256 u 0xFF800000#32 reduces_S128x256_S256 (.inl rfl) rfl)
    shapeCasts_S256_S1x256) s

/-- The weights before normalisation. -/
def eu (u : FVec Ideal S128x256 .f32) (m : FVec Ideal S1x256 .f32) : FVec Ideal S128x256 .f32 :=
  exp2 (subf u (broadcastTo S128x256 m broadcasts_S1x256_S128x256))

/-- The row of denominators. -/
def denRow (e : FVec Ideal S128x256 .f32) (s m : FVec Ideal S1x256 .f32) : FVec Ideal S1x256 .f32 :=
  addf (shapeCast S1x256 (multiReduction .add [0] S256 e 0x00000000#32 reduces_S128x256_S256 (.inl rfl) rfl)
    shapeCasts_S256_S1x256) (exp2 (subf s m))

/-- The weights unfolded over the two blocks. -/
def et (e : FVec Ideal S128x256 .f32) : FVec Ideal S256x256 .bf16 :=
  truncf .bf16 (concatenate S256x256 0
    [⟨S128x256, select fromPrev e (broadcast S128x256 (Scalar.ofBits .f32 0x00000000#32))⟩,
     ⟨S128x256, select fromPrev (broadcast S128x256 (Scalar.ofBits .f32 0x00000000#32)) e⟩]
    concatenates_S128x256_S128x256_S256x256_d0) bitsLt_bf16_f32

/-- The values weighted and normalised, transposed. -/
def ot (vp vc : FVec Ideal S128x128 .bf16) (w : FVec Ideal S256x256 .bf16) (den : FVec Ideal S1x256 .f32) :
    FVec Ideal S128x256 .f32 :=
  divf (matmul dot_S128x256_S256x256_S128x256_1_0_0_1_n_n none
    (concatenate S128x256 1 [⟨S128x128, vp⟩, ⟨S128x128, vc⟩] concatenates_S128x128_S128x128_S128x256_d1)
    w (constant S128x256 .f32 0x00000000#32)) (broadcastTo S128x256 den broadcasts_S1x256_S128x256)

/-- Attention of head parity `p` for one pair of query tiles: from its folded scores and sinks. -/
def attnOf (vp vc : FVec Ideal S128x128 .bf16) (u : FVec Ideal S128x256 .f32) (s : FVec Ideal S1x256 .f32) :
    FVec Ideal S128x256 .f32 :=
  ot vp vc (et (eu u (mRow u s))) (denRow (eu u (mRow u s)) s (mRow u s))

/-- Sink `h` read off the sixteen. -/
def sinkAt (x0 : Vec Ideal S16 .f32) (h : Nat) (hh : h < 16) : Ideal .f32 :=
  View.ld x0 (Rect.unit (s := S16) ![h] S1.size (by intro a; fin_cases a; simp; omega)) (Shape.Idx.first (show 0 < S1.numel by decide))

/-- Attention of query block `qb`, key head `g`, head parity `p`, in a step at position `n`. -/
def attn (n : Nat) (x0 : Vec Ideal S16 .f32) (x1 : Vec Ideal S1x512x1024 .f32) (x2 : Vec Ideal S1x128x512 .f32)
    (x3 : Vec Ideal S1x512x512 .f32) (qb g : Nat) (hq : qb < 4) (hg : g < 4) (p : Bool) : FVec Ideal S128x256 .f32 :=
  attnOf
    (vTile (p != (g % 2 == 1)) (kvBlk x2 x3 qb (2 + g / 2) (by omega) (by omega)))
    (vTile (p != (g % 2 == 1)) (kvBlk x2 x3 (qb + 1) (2 + g / 2) (by omega) (by omega)))
    (folded n qb (st
      (kTile (p != (g % 2 == 1)) (kvBlk x2 x3 qb (g / 2) (by omega) (by omega)))
      (kTile (p != (g % 2 == 1)) (kvBlk x2 x3 (qb + 1) (g / 2) (by omega) (by omega)))
      (qm p (qBlk x1 qb (2 * g) hq (by omega)) (qBlk x1 qb (2 * g + 1) hq (by omega)))))
    (sinkRow (sinkAt x0 (4 * g + p.toNat) (by cases p <;> simp <;> omega))
      (sinkAt x0 (4 * g + 2 + p.toNat) (by cases p <;> simp <;> omega)))

/-- Half `r` of the lanes. -/
def half (r : Bool) (x : FVec Ideal S128x256 .f32) : FVec Ideal S128x128 .f32 :=
  match r with
  | false => extractStridedSlice S128x128 ![0, 0] x slices_S128x256_o0_0_S128x128
  | true => extractStridedSlice S128x128 ![0, 128] x slices_S128x256_o0_128_S128x128

/-- The tile of two heads a store writes. -/
def merge (a b : FVec Ideal S128x128 .f32) : FVec Ideal S1x128x128 .bf16 :=
  shapeCast S1x128x128 (truncf .bf16 (transpose S128x128 [1, 0] (select loRow a b) transposes_S128x128_p1_0_S128x128)
    bitsLt_bf16_f32) shapeCasts_S128x128_S1x128x128

/-- The tile written at query block `qb` and column tile `2g + r`. -/
def outTile (n : Nat) (x0 : Vec Ideal S16 .f32) (x1 : Vec Ideal S1x512x1024 .f32) (x2 : Vec Ideal S1x128x512 .f32)
    (x3 : Vec Ideal S1x512x512 .f32) (qb g : Nat) (hq : qb < 4) (hg : g < 4) (r : Bool) : FVec Ideal S1x128x128 .bf16 :=
  merge (half r (attn n x0 x1 x2 x3 qb g hq hg false)) (half r (attn n x0 x1 x2 x3 qb g hq hg true))

/-- The store of that tile. -/
def piece (n : Nat) (x0 : Vec Ideal S16 .f32) (x1 : Vec Ideal S1x512x1024 .f32) (x2 : Vec Ideal S1x128x512 .f32)
    (x3 : Vec Ideal S1x512x512 .f32) (qb g : Nat) (hq : qb < 4) (hg : g < 4) (r : Bool) :
    View.Piece (Elt Ideal) S1x512x1024 .bf16 :=
  ⟨Rect.unit (s := S1x512x1024) ![0, qb * 128, (2 * g + r.toNat) * 128] S1x128x128.size
    (by intro a; fin_cases a <;> cases r <;> simp <;> omega), outTile n x0 x1 x2 x3 qb g hq hg r⟩

/-- The stores of one query block, last first. -/
def rowPieces (n : Nat) (x0 : Vec Ideal S16 .f32) (x1 : Vec Ideal S1x512x1024 .f32) (x2 : Vec Ideal S1x128x512 .f32)
    (x3 : Vec Ideal S1x512x512 .f32) (qb : Nat) (hq : qb < 4) (L : List (View.Piece (Elt Ideal) S1x512x1024 .bf16)) :
    List (View.Piece (Elt Ideal) S1x512x1024 .bf16) :=
  piece n x0 x1 x2 x3 qb 3 hq (by omega) true :: piece n x0 x1 x2 x3 qb 3 hq (by omega) false ::
  piece n x0 x1 x2 x3 qb 2 hq (by omega) true :: piece n x0 x1 x2 x3 qb 2 hq (by omega) false ::
  piece n x0 x1 x2 x3 qb 1 hq (by omega) true :: piece n x0 x1 x2 x3 qb 1 hq (by omega) false ::
  piece n x0 x1 x2 x3 qb 0 hq (by omega) true :: piece n x0 x1 x2 x3 qb 0 hq (by omega) false :: L

/-- The stores of a step, last first. -/
def pieces (n : Nat) (x0 : Vec Ideal S16 .f32) (x1 : Vec Ideal S1x512x1024 .f32) (x2 : Vec Ideal S1x128x512 .f32)
    (x3 : Vec Ideal S1x512x512 .f32) : List (View.Piece (Elt Ideal) S1x512x1024 .bf16) :=
  rowPieces n x0 x1 x2 x3 3 (by omega) (rowPieces n x0 x1 x2 x3 2 (by omega)
    (rowPieces n x0 x1 x2 x3 1 (by omega) (rowPieces n x0 x1 x2 x3 0 (by omega) [])))

end Cert.Swa
-- ==== Proof.SwaPieces.lean ====
/-
  The stores of the generated run of the attention kernel are the tiles of `Cert.Swa.pieces`.
-/
module

public import proofs.«01_k».proof.Proof.SwaTile

@[expose] public section

noncomputable section

namespace Cert.Swa

open Idealize.ShloMosaic Idealize.ShloMosaic.TcCoe Idealize.SL.Sem
open Cert.KernelIdeal Cert.KernelIdeal.Gen

set_option maxRecDepth 16384

theorem pieces_raw (c : Dev nD) (i : grid0.Coords) (arg2 : Memref sig .tc .smem S16 .f32) (harg2 : arg2.IsWhole)
    (arg3 : Memref sig .tc .vmem S1x512x1024 .f32) (harg3 : arg3.IsWhole) (arg4 : Memref sig .tc .vmem S1x128x512 .f32)
    (harg4 : arg4.IsWhole) (arg5 : Memref sig .tc .vmem S1x512x512 .f32) (harg5 : arg5.IsWhole)
    (arg6 : Memref sig .tc .vmem S1x512x1024 .bf16) (harg6 : arg6.IsWhole) (x0 : Vec Ideal S16 .f32)
    (x1 : Vec Ideal S1x512x1024 .f32) (x2 : Vec Ideal S1x128x512 .f32) (x3 : Vec Ideal S1x512x512 .f32) :
    (kernelRun0_A (F := Ideal) c i arg2 harg2 arg3 harg3 arg4 harg4 arg5 harg5 arg6 harg6 x0 x1 x2 x3).1
      = pieces (i 1).val (arg2.view.read (Elt Ideal) (harg2.unread x0)) (arg3.view.read (Elt Ideal) (harg3.unread x1))
        (arg4.view.read (Elt Ideal) (harg4.unread x2)) (arg5.view.read (Elt Ideal) (harg5.unread x3)) := by
  sl_kernel_rfl

end Cert.Swa
-- ==== Proof.SwaBlock.lean ====
/-
  The array the attention kernel leaves, from its tiles: what a grid point writes back at an index is the tile of
  `Cert.Swa.outTile` there, and the blocks it reads are rows of the arguments.
-/
module

public import proofs.«01_k».proof.Proof.SwaPieces
public import Idealize.ShloMosaic.Lib.Pipeline.ValueKit
public import Idealize.ShloMosaic.Lib.Pointwise

@[expose] public section

noncomputable section

namespace Cert.Swa

open Idealize.ShloMosaic Idealize.ShloMosaic.TcCoe Idealize.SL.Sem
open Cert.KernelIdeal Cert.KernelIdeal.Gen

/-- Every store of a step is one of the tiles. -/
theorem mem_pieces (n : Nat) (x0 : Vec Ideal S16 .f32) (x1 : Vec Ideal S1x512x1024 .f32) (x2 : Vec Ideal S1x128x512 .f32)
    (x3 : Vec Ideal S1x512x512 .f32) (p : View.Piece (Elt Ideal) S1x512x1024 .bf16) (h : p ∈ pieces n x0 x1 x2 x3) :
    ∃ (qb g : Nat) (hq : qb < 4) (hg : g < 4) (r : Bool), p = piece n x0 x1 x2 x3 qb g hq hg r := by
  simp only [pieces, rowPieces, List.mem_cons, List.not_mem_nil, or_false] at h
  repeat (rcases h with h | h; · exact ⟨_, _, _, _, _, h⟩)
  exact ⟨_, _, _, _, _, h⟩

/-- What a step's stores leave, at query `i` of query block `qb` and lane `e` of head `4g + 2r + p`. -/
theorem out_apply (c : Dev nD) (i : grid0.Coords) (arg2 : Memref sig .tc .smem S16 .f32) (harg2 : arg2.IsWhole)
    (arg3 : Memref sig .tc .vmem S1x512x1024 .f32) (harg3 : arg3.IsWhole) (arg4 : Memref sig .tc .vmem S1x128x512 .f32)
    (harg4 : arg4.IsWhole) (arg5 : Memref sig .tc .vmem S1x512x512 .f32) (harg5 : arg5.IsWhole)
    (arg6 : Memref sig .tc .vmem S1x512x1024 .bf16) (harg6 : arg6.IsWhole) (x0 : Vec Ideal S16 .f32)
    (x1 : Vec Ideal S1x512x1024 .f32) (x2 : Vec Ideal S1x128x512 .f32) (x3 : Vec Ideal S1x512x512 .f32)
    (qb g : Nat) (hq : qb < 4) (hg : g < 4) (r p : Bool) (q : Fin 128) (e : Fin 64) :
    out0_A_4 (F := Ideal) c i arg2 harg2 arg3 harg3 arg4 harg4 arg5 harg5 arg6 harg6 x0 x1 x2 x3
        (ix3 0 ⟨qb * 128 + q.val, by omega⟩ ⟨(2 * g + r.toNat) * 128 + (p.toNat * 64 + e.val), by cases r <;> cases p <;> simp <;> omega⟩)
      = outTile (i 1).val x0 x1 x2 x3 qb g hq hg r (ix3 0 q ⟨p.toNat * 64 + e.val, by cases p <;> simp <;> omega⟩) := by
  unfold out0_A_4
  have hc := cover0_A_4 (F := Ideal) c i arg2 harg2 arg3 harg3 arg4 harg4 arg5 harg5 arg6 harg6 x0 x1 x2 x3
  rw [View.read_writes_eq_canon _ _ _ hc]
  refine View.canon_eq_of_allAt _ _ _ (hc _) fun pc hpc x hx => ?_
  rw [pieces_raw, harg2.read_unread, harg3.read_unread, harg4.read_unread, harg5.read_unread] at hpc
  obtain ⟨qb', g', hq', hg', r', rfl⟩ := mem_pieces _ _ _ _ _ _ hpc
  have h1 := congrArg (fun y : S1x512x1024.Idx => (y 1).val) hx
  have h2 := congrArg (fun y : S1x512x1024.Idx => (y 2).val) hx
  have hb1 : (x 1 : Nat) < 128 := (x 1).isLt
  have hb2 : (x 2 : Nat) < 128 := (x 2).isLt
  have h0 : (x 0 : Nat) < 1 := (x 0).isLt
  have h1' : qb' * 128 + 1 * (x 1 : Nat) = qb * 128 + q.val := h1
  have h2' : (2 * g' + r'.toNat) * 128 + 1 * (x 2 : Nat) = (2 * g + r.toNat) * 128 + (p.toNat * 64 + e.val) := h2
  have hp : p.toNat ≤ 1 := by cases p <;> simp
  have hr : r.toNat ≤ 1 := by cases r <;> simp
  have hr' : r'.toNat ≤ 1 := by cases r' <;> simp
  obtain rfl : qb' = qb := by omega
  obtain rfl : g' = g := by omega
  have hrr : r'.toNat = r.toNat := by omega
  obtain rfl : r' = r := by cases r' <;> cases r <;> simp_all
  show outTile _ x0 x1 x2 x3 qb' g' hq hg r' x = _
  refine congrArg _ (funext fun a => Fin.ext ?_)
  match a with
  | ⟨0, _⟩ => exact Nat.lt_one_iff.mp h0
  | ⟨1, _⟩ => show (x 1 : Nat) = q.val; omega
  | ⟨2, _⟩ => show (x 2 : Nat) = p.toNat * 64 + e.val; omega

/-- The blocks a step at batch row `b` and position `n` reads, as rows of the argument arrays. -/
structure Blocks (x0 : S8x2048x1024.Idx → EReal) (x1 : S8x2048x512.Idx → EReal) (x2 : S1x16.Idx → EReal) (b : Fin 8) (n : Fin 4)
    (X0 : Vec Ideal S16 .f32) (X1 : Vec Ideal S1x512x1024 .f32) (X2 : Vec Ideal S1x128x512 .f32)
    (X3 : Vec Ideal S1x512x512 .f32) : Prop where
  sink : ∀ h : Fin 16, X0 (ix1 h) = x2 (ix2 0 h)
  query : ∀ (r : Fin 512) (l : Fin 1024), X1 (ix3 0 r l) = x0 (ix3 b ⟨n.val * 512 + r.val, by omega⟩ l)
  prev : ∀ (r : Fin 128) (l : Fin 512), X2 (ix3 0 r l) = x1 (ix3 b ⟨(4 * n.val - 1) * 128 + r.val, by omega⟩ l)
  cur : ∀ (r : Fin 512) (l : Fin 512), X3 (ix3 0 r l) = x1 (ix3 b ⟨n.val * 512 + r.val, by omega⟩ l)

variable (m : (ℓ : Loc nD τ sig) → Buf (Elt Ideal) ℓ)

theorem idx0 : ∀ t : Fin cfg0.N, win0_0.index t = ![0] := by decide +kernel
theorem idx1 : ∀ t : Fin cfg0.N, win0_1.index t = ![t.val / 4, t.val % 4, 0] := by decide +kernel
theorem idx2 : ∀ t : Fin cfg0.N, win0_2.index t = ![t.val / 4, 4 * (t.val % 4) - 1, 0] := by decide +kernel
theorem idx3 : ∀ t : Fin cfg0.N, win0_3.index t = ![t.val / 4, t.val % 4, 0] := by decide +kernel
theorem idx4 : ∀ t : Fin cfg0.N, win0_4.index t = ![t.val / 4, t.val % 4, 0] := by decide +kernel
theorem coord1 : ∀ t : Fin cfg0.N, ((grid0.coords t) 1).val = t.val % 4 := by decide +kernel

theorem lt_grid (t : Fin cfg0.N) : t.val < 32 := t.isLt

theorem blocks (c : Dev nD) (t : Fin cfg0.N) :
    Blocks (m ((c : Thread nD τ).loc main_arg0)) (m ((c : Thread nD τ).loc main_arg1)) (m ((c : Thread nD τ).loc main_arg2))
      ⟨t.val / 4, by have := lt_grid t; omega⟩ ⟨t.val % 4, by omega⟩
      (iblk m c 0 t) (iblk m c 1 t) (iblk m c 2 t) (iblk m c 3 t) where
  sink h := by
    unfold iblk
    rw [View.read_apply]
    entry_read
    pointwise
    blk_ext [iblk, idx0 t]
  query r l := by blk_ext [iblk, V_main_arg0, idx1 t]
  prev r l := by blk_ext [iblk, V_main_arg1, idx2 t]
  cur r l := by blk_ext [iblk, V_main_arg1, idx3 t]

/-- The array after the run is `G` as soon as every tile agrees with `G` at its place. -/
theorem arr_eq (c : Dev nD) (G : S8x2048x1024.Idx → EReal)
    (hG : ∀ (b : Fin 8) (n : Fin 4) (X0 : Vec Ideal S16 .f32) (X1 : Vec Ideal S1x512x1024 .f32) (X2 : Vec Ideal S1x128x512 .f32)
      (X3 : Vec Ideal S1x512x512 .f32),
      Blocks (m ((c : Thread nD τ).loc main_arg0)) (m ((c : Thread nD τ).loc main_arg1)) (m ((c : Thread nD τ).loc main_arg2)) b n X0 X1 X2 X3 →
      ∀ (qb g : Nat) (hq : qb < 4) (hg : g < 4) (r p : Bool) (q : Fin 128) (e : Fin 64),
        outTile n.val X0 X1 X2 X3 qb g hq hg r (ix3 0 q ⟨p.toNat * 64 + e.val, by cases p <;> simp <;> omega⟩)
          = G (ix3 b ⟨(n.val * 4 + qb) * 128 + q.val, by omega⟩ ⟨g * 256 + (2 * r.toNat + p.toNat) * 64 + e.val, by cases r <;> cases p <;> simp <;> omega⟩)) :
    (dats m 0 c).arrAt 4 cfg0.N = G := by
  refine (dats m 0 c).arrAt_eq_of_covers 4 _ (by decide +kernel) fun t hf y => ?_
  rw [after0_4]
  have ht := lt_grid t
  have y0 : (y 0 : Nat) < 1 := (y 0).isLt
  have y1 : (y 1 : Nat) < 512 := (y 1).isLt
  have y2 : (y 2 : Nat) < 1024 := (y 2).isLt
  let pp : Bool := decide ((y 2 : Nat) / 64 % 2 = 1)
  let rr : Bool := decide ((y 2 : Nat) / 128 % 2 = 1)
  have hp : pp.toNat = (y 2 : Nat) / 64 % 2 := by
    show (decide _).toNat = _
    by_cases h : (y 2 : Nat) / 64 % 2 = 1
    · simp [h]
    · simp [h]; omega
  have hr : rr.toNat = (y 2 : Nat) / 128 % 2 := by
    show (decide _).toNat = _
    by_cases h : (y 2 : Nat) / 128 % 2 = 1
    · simp [h]
    · simp [h]; omega
  have hy : (cfg0.win 4).xinj (cfg0.grid.coords t) y
      = ix3 0 ⟨(y 1 : Nat) / 128 * 128 + (⟨(y 1 : Nat) % 128, by omega⟩ : Fin 128).val, by show (y 1 : Nat) / 128 * 128 + (y 1 : Nat) % 128 < 512; omega⟩
        ⟨(2 * ((y 2 : Nat) / 256) + rr.toNat) * 128 + (pp.toNat * 64 + (⟨(y 2 : Nat) % 64, by omega⟩ : Fin 64).val), by
          show (2 * ((y 2 : Nat) / 256) + rr.toNat) * 128 + (pp.toNat * 64 + (y 2 : Nat) % 64) < 1024; omega⟩ :=
    funext fun a => Fin.ext (by
      match a with
      | ⟨0, _⟩ => show (y 0 : Nat) = 0; omega
      | ⟨1, _⟩ => show (y 1 : Nat) = (y 1 : Nat) / 128 * 128 + (y 1 : Nat) % 128; omega
      | ⟨2, _⟩ =>
        show (y 2 : Nat) = (2 * ((y 2 : Nat) / 256) + rr.toNat) * 128 + (pp.toNat * 64 + (y 2 : Nat) % 64)
        omega)
  rw [hy]
  unfold outsAt0
  show (out0_A_4 (F := Ideal) c (grid0.coords t) _ _ _ _ _ _ _ _ _ _ _ _ _ _ _) = _
  rw [out_apply c (grid0.coords t) _ _ _ _ _ _ _ _ _ _ _ _ _ _ ((y 1 : Nat) / 128) ((y 2 : Nat) / 256) (by omega) (by omega) rr pp ⟨(y 1 : Nat) % 128, by omega⟩ ⟨(y 2 : Nat) % 64, by omega⟩,
    coord1 t, hG _ _ _ _ _ _ (blocks m c t) _ _ _ _ rr pp _ _]
  refine congrArg G (funext fun a => Fin.ext ?_)
  match a with
  | ⟨0, _⟩ =>
    refine Eq.trans ?_ ((cfg0.win 4).rect_emb_val t y 0).symm
    rw [show (cfg0.win 4).index t 0 = t.val / 4 from congrFun (idx4 t) 0]
    show t.val / 4 = t.val / 4 * 1 + (y 0 : Nat)
    omega
  | ⟨1, _⟩ =>
    refine Eq.trans ?_ ((cfg0.win 4).rect_emb_val t y 1).symm
    rw [show (cfg0.win 4).index t 1 = t.val % 4 from congrFun (idx4 t) 1]
    show (t.val % 4 * 4 + (y 1 : Nat) / 128) * 128 + (y 1 : Nat) % 128 = t.val % 4 * 512 + (y 1 : Nat)
    omega
  | ⟨2, _⟩ =>
    refine Eq.trans ?_ ((cfg0.win 4).rect_emb_val t y 2).symm
    rw [show (cfg0.win 4).index t 2 = 0 from congrFun (idx4 t) 2]
    show (y 2 : Nat) / 256 * 256 + (2 * rr.toNat + pp.toNat) * 64 + (y 2 : Nat) % 64 = 0 * 1024 + (y 2 : Nat)
    omega

end Cert.Swa
-- ==== Proof.SwaMath.lean ====
/-
  One query of banded attention with a sink, on extended reals: the folded, base-2 form the kernel computes equals the
  softmax over the 256 band entries and the sink.
-/
module

public import Idealize.ShloMosaic.PureOps.Ideal
public import Idealize.ShloMosaic.PureOps.Ideal.Laws
public import Mathlib.Data.EReal.Operations

@[expose] public section

noncomputable section

namespace Cert.SwaMath

open Idealize.ShloMosaic

/-- The folded band in base 2: scores `u`, sink `s`, the rows from the previous block chosen by `fp`. -/
def kform (fp : Fin 128 → Prop) [DecidablePred fp] (u : Fin 128 → EReal) (s : EReal) (vP vC : Fin 128 → EReal) : EReal :=
  Ideal.div
    (∑ c : Fin 128, vP c * (if fp c then Ideal.exp2 (u c - max (Finset.univ.fold max ⊥ u) s) else 0)
      + ∑ c : Fin 128, vC c * (if fp c then 0 else Ideal.exp2 (u c - max (Finset.univ.fold max ⊥ u) s)))
    (∑ c : Fin 128, Ideal.exp2 (u c - max (Finset.univ.fold max ⊥ u) s)
      + Ideal.exp2 (s - max (Finset.univ.fold max ⊥ u) s))

/-- The softmax over the scores `sP`, `sC` and the sink `σ`, and the values weighted by it. -/
def rform (sP sC : Fin 128 → EReal) (σ : EReal) (vP vC : Fin 128 → EReal) : EReal :=
  let M := max (max (Finset.univ.fold max ⊥ sP) (Finset.univ.fold max ⊥ sC)) σ
  let D := ∑ c : Fin 128, Ideal.exp (sP c - M) + ∑ c : Fin 128, Ideal.exp (sC c - M) + Ideal.exp (σ - M)
  ∑ c : Fin 128, vP c * Ideal.div (Ideal.exp (sP c - M)) D + ∑ c : Fin 128, vC c * Ideal.div (Ideal.exp (sC c - M)) D

/-- A sum times a nonnegative real, term by term. -/
theorem sum_mul_real {n : Nat} (f : Fin n → EReal) (r : ℝ) (hr : 0 ≤ r) :
    (∑ k, f k) * (r : EReal) = ∑ k, f k * (r : EReal) := by
  have h0 : (0 : EReal) ≤ (r : EReal) := by exact_mod_cast hr
  induction (Finset.univ : Finset (Fin n)) using Finset.induction_on with
  | empty => simp
  | insert a s ha ih =>
    rw [Finset.sum_insert ha, Finset.sum_insert ha, EReal.right_distrib_of_nonneg_of_ne_top h0 (EReal.coe_ne_top r), ih]

/-- A sum of reals. -/
theorem coe_sum {n : Nat} (f : Fin n → ℝ) : ∑ k, (f k : EReal) = ((∑ k, f k : ℝ) : EReal) := by
  induction (Finset.univ : Finset (Fin n)) using Finset.induction_on with
  | empty => simp
  | insert a s ha ih => rw [Finset.sum_insert ha, Finset.sum_insert ha, ih, EReal.coe_add]

/-- Division by a positive real is a product with its inverse. -/
theorem div_pos (x : EReal) (d : ℝ) (hd : 0 < d) : Ideal.div x (d : EReal) = x * ((d⁻¹ : ℝ) : EReal) := by
  unfold Ideal.div
  rw [if_neg (by exact_mod_cast hd.ne'), EReal.coe_inv]

/-- Base 2 with scaled scores is base e. -/
theorem exp2_scaled (a μ : ℝ) :
    Ideal.exp2 ((a : EReal) * (((Real.log 2)⁻¹ : ℝ) : EReal) - (μ : EReal) * (((Real.log 2)⁻¹ : ℝ) : EReal))
      = ((Real.exp (a - μ) : ℝ) : EReal) := by
  have h2 : Real.log 2 ≠ 0 := (Real.log_pos (by norm_num)).ne'
  rw [← EReal.coe_mul, ← EReal.coe_mul, ← EReal.coe_sub, Ideal.exp2_coe]
  congr 1
  show (2 : ℝ) ^ (a * (Real.log 2)⁻¹ - μ * (Real.log 2)⁻¹) = _
  rw [Real.rpow_def_of_pos (by norm_num)]
  congr 1
  field_simp

theorem bot_scaled : (⊥ : EReal) * (((Real.log 2)⁻¹ : ℝ) : EReal) = ⊥ :=
  EReal.bot_mul_coe_of_pos (inv_pos.mpr (Real.log_pos (by norm_num)))

theorem max_scaled (x y : EReal) : max x y * (((Real.log 2)⁻¹ : ℝ) : EReal)
    = max (x * (((Real.log 2)⁻¹ : ℝ) : EReal)) (y * (((Real.log 2)⁻¹ : ℝ) : EReal)) := by
  have h0 : (0 : EReal) ≤ (((Real.log 2)⁻¹ : ℝ) : EReal) := by
    exact_mod_cast (inv_pos.mpr (Real.log_pos (by norm_num))).le
  exact (show Monotone fun z : EReal => z * (((Real.log 2)⁻¹ : ℝ) : EReal) from
    fun a b hab => mul_le_mul_of_nonneg_right hab h0).map_max

/-- A running maximum is its supremum. -/
theorem fold_max_eq_sup {n : Nat} (f : Fin n → EReal) : Finset.univ.fold max ⊥ f = Finset.univ.sup f := rfl

/-- The two blocks' entries and the sink, as one row of 257. -/
theorem fold_three (f : Fin 257 → EReal) :
    Finset.univ.fold max ⊥ f = max (max (Finset.univ.fold max ⊥ fun c : Fin 128 => f ⟨c.val, by omega⟩)
      (Finset.univ.fold max ⊥ fun c : Fin 128 => f ⟨128 + c.val, by omega⟩)) (f ⟨256, by omega⟩) := by
  simp only [fold_max_eq_sup]
  apply le_antisymm
  · refine Finset.sup_le fun k _ => ?_
    by_cases h1 : k.val < 128
    · exact le_max_of_le_left (le_max_of_le_left
        (Finset.le_sup (f := fun c : Fin 128 => f ⟨c.val, by omega⟩) (Finset.mem_univ ⟨k.val, h1⟩)))
    · by_cases h2 : k.val < 256
      · refine le_max_of_le_left (le_max_of_le_right (le_trans (le_of_eq ?_)
          (Finset.le_sup (f := fun c : Fin 128 => f ⟨128 + c.val, by omega⟩) (Finset.mem_univ ⟨k.val - 128, by omega⟩))))
        exact congrArg f (Fin.ext (by show k.val = 128 + (k.val - 128); omega))
      · exact le_max_of_le_right (le_of_eq (congrArg f (Fin.ext (by show k.val = 256; omega))))
  · refine max_le (max_le ?_ ?_) (Finset.le_sup (Finset.mem_univ _))
    · exact Finset.sup_le fun c _ => Finset.le_sup (f := f) (Finset.mem_univ _)
    · exact Finset.sup_le fun c _ => Finset.le_sup (f := f) (Finset.mem_univ _)

theorem sum_three (f : Fin 257 → EReal) :
    ∑ k, f k = ∑ c : Fin 128, f ⟨c.val, by omega⟩ + ∑ c : Fin 128, f ⟨128 + c.val, by omega⟩ + f ⟨256, by omega⟩ := by
  rw [Fin.sum_univ_castSucc]
  exact congrArg (· + _) (Fin.sum_univ_add (a := 128) (b := 128) fun k : Fin 256 => f k.castSucc)

theorem sum_two (f : Fin 256 → EReal) :
    ∑ k, f k = ∑ c : Fin 128, f ⟨c.val, by omega⟩ + ∑ c : Fin 128, f ⟨128 + c.val, by omega⟩ :=
  Fin.sum_univ_add (a := 128) (b := 128) f

/-- The scores a query sees after the mask: real or −∞. -/
def Seen (x : EReal) : Prop := x = ⊥ ∨ ∃ r : ℝ, x = (r : EReal)

theorem Seen.ne_top {x : EReal} (h : Seen x) : x ≠ ⊤ := by
  rcases h with rfl | ⟨r, rfl⟩
  · exact bot_ne_top
  · exact EReal.coe_ne_top r

/-- The exponential of a seen score against a real maximum is a nonnegative real. -/
theorem exp_seen {x : EReal} (h : Seen x) (μ : ℝ) : ∃ r : ℝ, 0 ≤ r ∧ Ideal.exp (x - (μ : EReal)) = (r : EReal) := by
  rcases h with rfl | ⟨r, rfl⟩
  · exact ⟨0, le_rfl, by simp [EReal.bot_sub]⟩
  · exact ⟨Real.exp (r - μ), (Real.exp_pos _).le, by rw [← EReal.coe_sub, Ideal.exp_coe]⟩

theorem exp_bot_sub (μ : EReal) : Ideal.exp (⊥ - μ) = 0 := by
  rw [EReal.bot_sub]; rfl

theorem exp2_seen {x : EReal} (h : Seen x) (μ : ℝ) :
    Ideal.exp2 (x * (((Real.log 2)⁻¹ : ℝ) : EReal) - (μ : EReal) * (((Real.log 2)⁻¹ : ℝ) : EReal))
      = Ideal.exp (x - (μ : EReal)) := by
  rcases h with rfl | ⟨r, rfl⟩
  · rw [bot_scaled, EReal.bot_sub, exp_bot_sub]; rfl
  · rw [exp2_scaled, ← EReal.coe_sub, Ideal.exp_coe]

/-- The folded base-2 form is the softmax: `a` holds the folded scores, those of the previous block where `fp`. -/
theorem kform_eq_rform (fp : Fin 128 → Prop) [DecidablePred fp] (a : Fin 128 → EReal) (ha : ∀ c, Seen (a c)) (σ : ℝ)
    (vP vC wP : Fin 128 → EReal) (hv : ∀ c, fp c → vP c = wP c ∨ a c = ⊥) :
    kform fp (fun c => a c * (((Real.log 2)⁻¹ : ℝ) : EReal)) ((σ : EReal) * (((Real.log 2)⁻¹ : ℝ) : EReal)) vP vC
      = rform (fun c => if fp c then a c else ⊥) (fun c => if fp c then ⊥ else a c) (σ : EReal) wP vC := by
  -- the maximum
  obtain ⟨μ, hμ⟩ : ∃ μ : ℝ, max (Finset.univ.fold max ⊥ a) (σ : EReal) = (μ : EReal) := by
    refine ⟨(max (Finset.univ.fold max ⊥ a) (σ : EReal)).toReal, (EReal.coe_toReal ?_ ?_).symm⟩
    · refine (max_lt ?_ (EReal.coe_lt_top σ)).ne
      rw [fold_max_eq_sup, Finset.sup_lt_iff bot_lt_top]
      exact fun c _ => (ha c).ne_top.lt_top
    · exact ((EReal.bot_lt_coe σ).trans_le (le_max_right _ _)).ne'
  have hk : max (Finset.univ.fold max ⊥ fun c => a c * (((Real.log 2)⁻¹ : ℝ) : EReal))
      ((σ : EReal) * (((Real.log 2)⁻¹ : ℝ) : EReal)) = (μ : EReal) * (((Real.log 2)⁻¹ : ℝ) : EReal) := by
    rw [← hμ, max_scaled]
    congr 1
    have := Finset.fold_hom (s := (Finset.univ : Finset (Fin 128))) (f := a) (b := (⊥ : EReal)) (op := max) (op' := max)
      (m := fun z : EReal => z * (((Real.log 2)⁻¹ : ℝ) : EReal)) max_scaled
    simp only [bot_scaled] at this
    exact this
  have hr : max (max (Finset.univ.fold max ⊥ fun c => if fp c then a c else ⊥)
      (Finset.univ.fold max ⊥ fun c => if fp c then ⊥ else a c)) (σ : EReal) = (μ : EReal) := by
    rw [← hμ]
    congr 1
    simp only [fold_max_eq_sup]
    rw [← Finset.sup_sup]
    refine Finset.sup_congr rfl fun c _ => ?_
    by_cases h : fp c <;> simp [h]
  -- the weights
  choose e he0 he using fun c => exp_seen (ha c) μ
  have hw1 : ∀ c, Ideal.exp ((if fp c then a c else ⊥) - (μ : EReal)) = if fp c then (e c : EReal) else 0 := by
    intro c; by_cases h : fp c
    · simp only [if_pos h, he]
    · simp only [if_neg h, exp_bot_sub]
  have hw2 : ∀ c, Ideal.exp ((if fp c then ⊥ else a c) - (μ : EReal)) = if fp c then 0 else (e c : EReal) := by
    intro c; by_cases h : fp c
    · simp only [if_pos h, exp_bot_sub]
    · simp only [if_neg h, he]
  have hσ : Ideal.exp ((σ : EReal) - (μ : EReal)) = (Real.exp (σ - μ) : EReal) := by
    rw [← EReal.coe_sub, Ideal.exp_coe]
  have hD : ∑ c : Fin 128, (e c : EReal) + (Real.exp (σ - μ) : EReal)
      = ((∑ c, e c + Real.exp (σ - μ) : ℝ) : EReal) := by rw [coe_sum, EReal.coe_add]
  have hDpos : 0 < ∑ c, e c + Real.exp (σ - μ) :=
    add_pos_of_nonneg_of_pos (Finset.sum_nonneg fun c _ => he0 c) (Real.exp_pos _)
  unfold kform rform
  simp only [hk, hr, hw1, hw2, hσ, exp2_seen (ha _), exp2_scaled, he]
  have hsplit : ∑ c : Fin 128, (if fp c then (e c : EReal) else 0) + ∑ c : Fin 128, (if fp c then 0 else (e c : EReal))
      = ∑ c : Fin 128, (e c : EReal) := by
    rw [← Finset.sum_add_distrib]
    refine Finset.sum_congr rfl fun c _ => ?_
    by_cases h : fp c <;> simp [h]
  rw [hsplit, hD]
  generalize ∑ c, e c + Real.exp (σ - μ) = d at hDpos
  have hd0 : (0 : ℝ) ≤ d⁻¹ := (inv_pos.mpr hDpos).le
  simp only [div_pos _ d hDpos]
  rw [EReal.right_distrib_of_nonneg_of_ne_top (by exact_mod_cast hd0) (EReal.coe_ne_top _), sum_mul_real _ _ hd0,
    sum_mul_real _ _ hd0]
  congr 1
  · refine Finset.sum_congr rfl fun c _ => ?_
    rw [mul_assoc]
    by_cases h : fp c
    · rcases hv c h with hvc | hbot
      · rw [hvc]
      · have : e c = 0 := by
          have := he c
          rw [hbot, exp_bot_sub] at this
          exact_mod_cast this.symm
        simp [h, this]
    · simp [h]
  · exact Finset.sum_congr rfl fun c _ => mul_assoc _ _ _

/-- A real score from finite keys and queries: the kernel scales the query by `1/8 · log₂ e` before the product, the
    softmax scales the product by `1/8`. -/
theorem score_eq (k q : Fin 64 → ℝ) :
    ∑ d, (k d : EReal) * ((q d : EReal) * (((1 / 8) * (Real.log 2)⁻¹ : ℝ) : EReal))
      = ((∑ d, (k d : EReal) * (q d : EReal)) * ((1 / 8 : ℝ) : EReal)) * (((Real.log 2)⁻¹ : ℝ) : EReal) := by
  simp only [← EReal.coe_mul, coe_sum]
  congr 1
  rw [Finset.sum_mul, Finset.sum_mul]
  exact Finset.sum_congr rfl fun d _ => by ring

theorem score_seen (k q : Fin 64 → ℝ) : Seen ((∑ d, (k d : EReal) * (q d : EReal)) * ((1 / 8 : ℝ) : EReal)) := by
  simp only [← EReal.coe_mul, coe_sum]
  exact .inr ⟨_, rfl⟩

end Cert.SwaMath
-- ==== Proof.SwaRead.lean ====
/-
  The tile of the attention kernel read at an index: one query, one head, as the folded base-2 form of `SwaMath`.
-/
module

public import proofs.«01_k».proof.Proof.SwaTile
public import proofs.«01_k».proof.Proof.SwaMath
public import Idealize.ShloMosaic.Lib.Pointwise

@[expose] public section

noncomputable section

namespace Cert.Swa

open Idealize.ShloMosaic Idealize.ShloMosaic.TcCoe Idealize.SL.Sem
open Cert.KernelIdeal Cert.KernelIdeal.Gen

/-- The scale of the queries as a real. -/
abbrev qs : EReal := (((1 / 8) * (Real.log 2)⁻¹ : ℝ) : EReal)
/-- `log₂ e` as a real. -/
abbrev l2e : EReal := (((Real.log 2)⁻¹ : ℝ) : EReal)

theorem named_qs : Named.named (F := Ideal) (φ := .f32) κ "q_scale" 0x3E38AA3B#32 = qs :=
  IdealRules.named_const.ideal_named_scalar _ _ _ _ rfl
theorem named_l2e : Named.named (F := Ideal) (φ := .f32) κ "log2e" 0x3FB8AA3B#32 = l2e :=
  IdealRules.named_const.ideal_named_scalar _ _ _ _ rfl

theorem ofBits_neg_inf : Ideal.ofBits .f32 0xFF800000#32 = ⊥ := by simp [Ideal.ofBits, Ideal.ieee]

/-- A select on a decided bit. -/
theorem select_ite {α : Type} (P : Prop) [Decidable P] (x y : α) :
    Scalar.select (if P then 1#1 else 0#1) x y = if P then x else y := by
  by_cases h : P <;> simp [h, Scalar.select]

theorem loLane_apply (r l : Fin 128) : loLane (ix2 r l) = if l.val < 64 then 1#1 else 0#1 := by
  pointwise [loLane]
  revert l
  decide +kernel

theorem loRow_apply (r l : Fin 128) : loRow (ix2 r l) = if r.val < 64 then 1#1 else 0#1 := by
  pointwise [loRow]
  revert r
  decide +kernel

theorem keep_apply (p : Bool) (r l : Fin 128) : keep p (ix2 r l) = if l.val / 64 = p.toNat then 1#1 else 0#1 := by
  cases p
  · show loLane (ix2 r l) = _
    rw [loLane_apply]
    exact if_congr (by simp) rfl rfl
  · show IntOp.xori (loLane (ix2 r l)) 1#1 = _
    rw [loLane_apply]
    have := l.isLt
    by_cases h : l.val < 64
    · rw [if_pos h, if_neg (by simp; omega)]; rfl
    · rw [if_neg h, if_pos (by simp; omega)]; rfl

theorem fromPrev_apply (c : Fin 128) (j : Fin 256) : fromPrev (ix2 c j) = if j.val % 128 < c.val then 1#1 else 0#1 := by
  pointwise [fromPrev]
  have h : ∀ j : Fin 256, IntOp.andi (BitVec.ofNat 32 j.val) 127#32 = BitVec.ofNat 32 (j.val % 128) := by decide +kernel
  rw [h]
  have h2 : ∀ a b : Fin 128, IntOp.cmpi .sgt (BitVec.ofNat 32 a.val) (BitVec.ofNat 32 b.val)
      = if b.val < a.val then 1#1 else 0#1 := by decide +kernel
  exact h2 c ⟨j.val % 128, by omega⟩

theorem kTile_apply (swap : Bool) (x : Vec Ideal S1x128x128 .f32) (r l : Fin 128) :
    kTile swap x (ix2 r l) = x (ix3 0 r ⟨(l.val + swap.toNat * 64) % 128, by omega⟩) := by
  cases swap
  · pointwise [kTile]
    refine congrArg x (congrArg _ (Fin.ext ?_))
    simp [Nat.mod_eq_of_lt l.isLt]
  · pointwise [kTile]
    refine congrArg x (congrArg _ (Fin.ext ?_))
    simp

theorem vTile_apply (swap : Bool) (x : Vec Ideal S1x128x128 .f32) (r l : Fin 128) :
    vTile swap x (ix2 r l) = x (ix3 0 l ⟨(r.val + swap.toNat * 64) % 128, by omega⟩) := by
  cases swap
  · pointwise [vTile]
    refine congrArg x (congrArg _ (Fin.ext ?_))
    simp [Nat.mod_eq_of_lt r.isLt]
  · pointwise [vTile]
    split
    · refine congrArg x (congrArg _ (Fin.ext ?_))
      simp
      omega
    · refine congrArg x (congrArg _ (Fin.ext ?_))
      simp
      omega

theorem qMask_apply (p : Bool) (x : Vec Ideal S1x128x128 .f32) (r l : Fin 128) :
    qMask (keep p) x (ix2 r l) = if l.val / 64 = p.toNat then x (ix3 0 r l) * qs else 0 := by
  pointwise [qMask]
  rw [named_qs, keep_apply, select_ite]

/-- The two query tiles as one choice. -/
theorem qm_apply (p : Bool) (x : Bool → Vec Ideal S1x128x128 .f32) (r : Bool) (i l : Fin 128) :
    qm p (x false) (x true) (ix2 ⟨r.toNat * 128 + i.val, by cases r <;> simp <;> omega⟩ l)
      = if l.val / 64 = p.toNat then x r (ix3 0 i l) * qs else 0 := by
  pointwise [qm]
  cases r
  · rw [dif_pos (by simp), qMask_apply]
    refine if_congr Iff.rfl ?_ rfl
    refine congrArg (· * qs) (congrArg (x false) (congrArg (ix3 0 · l) (Fin.ext ?_)))
    simp
  · rw [dif_neg (by simp), qMask_apply]
    refine if_congr Iff.rfl ?_ rfl
    refine congrArg (· * qs) (congrArg (x true) (congrArg (ix3 0 · l) (Fin.ext ?_)))
    simp

/-- A sum over the lanes of which one head's are not zero. -/
theorem sum_head (p : Bool) (a b : Fin 128 → EReal) :
    ∑ l : Fin 128, a l * (if l.val / 64 = p.toNat then b l else 0)
      = ∑ d : Fin 64, a ⟨p.toNat * 64 + d.val, by cases p <;> simp <;> omega⟩
          * b ⟨p.toNat * 64 + d.val, by cases p <;> simp <;> omega⟩ := by
  rw [show (∑ l : Fin 128, a l * (if l.val / 64 = p.toNat then b l else 0))
    = ∑ l : Fin (64 + 64), a l * (if l.val / 64 = p.toNat then b l else 0) from rfl, Fin.sum_univ_add]
  have h1 : ∀ d : Fin 64, (Fin.castAdd 64 d).val / 64 = 0 := fun d => by simp
  have h2 : ∀ d : Fin 64, (Fin.natAdd 64 d).val / 64 = 1 := fun d => by
    have := d.isLt
    rw [Fin.val_natAdd]; omega
  simp only [h1, h2]
  cases p
  · rw [Finset.sum_eq_zero (s := Finset.univ) (f := fun d : Fin 64 => a (Fin.natAdd 64 d) * _) fun d _ => by
      rw [if_neg (by decide), mul_zero], add_zero]
    refine Finset.sum_congr rfl fun d _ => ?_
    rw [if_pos (by rfl)]
    have h : (Fin.castAdd 64 d : Fin 128) = ⟨false.toNat * 64 + d.val, by simp; omega⟩ := Fin.ext (by simp)
    exact h ▸ rfl
  · rw [Finset.sum_eq_zero (s := Finset.univ) (f := fun d : Fin 64 => a (Fin.castAdd 64 d) * _) fun d _ => by
      rw [if_neg (by decide), mul_zero], zero_add]
    refine Finset.sum_congr rfl fun d _ => ?_
    rw [if_pos (by rfl)]
    rfl

/-- A sum over the two blocks. -/
theorem sum_two (f : Fin 256 → EReal) :
    ∑ k, f k = ∑ c : Fin 128, f ⟨c.val, by omega⟩ + ∑ c : Fin 128, f ⟨128 + c.val, by omega⟩ :=
  Fin.sum_univ_add (a := 128) (b := 128) f

/-- The lane of head `g` among the two of a tile. -/
theorem lane_swap (p : Bool) (g : Nat) (d : Nat) (hd : d < 64) :
    (p.toNat * 64 + d + (p != (g % 2 == 1)).toNat * 64) % 128 = g % 2 * 64 + d := by
  rcases Nat.mod_two_eq_zero_or_one g with h | h <;> cases p <;> simp [h] <;> omega

/-- One score: a key row of block `kx` against query `i`. -/
def score (kx q : Vec Ideal S1x128x128 .f32) (g : Nat) (p : Bool) (c i : Fin 128) : EReal :=
  ∑ d : Fin 64, kx (ix3 0 c ⟨g % 2 * 64 + d.val, by omega⟩)
    * (q (ix3 0 i ⟨p.toNat * 64 + d.val, by cases p <;> simp <;> omega⟩) * qs)

theorem score_sum (kx : Vec Ideal S1x128x128 .f32) (x : Bool → Vec Ideal S1x128x128 .f32) (g : Nat) (p r : Bool)
    (c i : Fin 128) :
    ∑ l : Fin 128, kTile (p != (g % 2 == 1)) kx (ix2 c l)
      * qm p (x false) (x true) (ix2 ⟨r.toNat * 128 + i.val, by cases r <;> simp <;> omega⟩ l) = score kx (x r) g p c i := by
  simp only [qm_apply, kTile_apply]
  rw [sum_head p (fun l => kx (ix3 0 c ⟨(l.val + (p != (g % 2 == 1)).toNat * 64) % 128, by omega⟩))
    (fun l => x r (ix3 0 i l) * qs)]
  unfold score
  refine Finset.sum_congr rfl fun d _ => ?_
  refine congrArg (· * _) (congrArg kx (congrArg _ (Fin.ext ?_)))
  exact lane_swap p g d.val d.isLt

theorem st_prev (kp kc : FVec Ideal S128x128 .bf16) (q : FVec Ideal S256x128 .bf16) (c : Fin 128) (j : Fin 256) :
    extractStridedSlice S128x256 ![0, 0] (st kp kc q) slices_S256x256_o0_0_S128x256 (ix2 c j)
      = ∑ l : Fin 128, kp (ix2 c l) * q (ix2 j l) := by
  pointwise [st]

theorem st_cur (kp kc : FVec Ideal S128x128 .bf16) (q : FVec Ideal S256x128 .bf16) (c : Fin 128) (j : Fin 256) :
    extractStridedSlice S128x256 ![128, 0] (st kp kc q) slices_S256x256_o128_0_S128x256 (ix2 c j)
      = ∑ l : Fin 128, kc (ix2 c l) * q (ix2 j l) := by
  pointwise [st]

theorem pos_word (n : Nat) (hn : n < 4) : Scalar.cmpi .sgt (BitVec.ofNat 32 n) 0#32 = if n ≠ 0 then 1#1 else 0#1 := by
  revert n
  decide +kernel

theorem prevScore_apply (n qb : Nat) (hn : n < 4) (kp kc : FVec Ideal S128x128 .bf16) (q : FVec Ideal S256x128 .bf16)
    (c : Fin 128) (j : Fin 256) :
    prevScore n qb (st kp kc q) (ix2 c j)
      = if n ≠ 0 ∨ qb ≠ 0 then ∑ l : Fin 128, kp (ix2 c l) * q (ix2 j l) else ⊥ := by
  cases qb with
  | zero =>
    show (Scalar.select (Scalar.cmpi .sgt (BitVec.ofNat 32 n) 0#32)
      (extractStridedSlice S128x256 ![0, 0] (st kp kc q) slices_S256x256_o0_0_S128x256)
      (broadcast S128x256 (Scalar.ofBits (F := Ideal) .f32 0xFF800000#32)) : FVec Ideal S128x256 .f32) (ix2 c j) = _
    rw [pos_word n hn, select_ite]
    by_cases h : n ≠ 0
    · rw [if_pos h, if_pos (.inl h), st_prev]
    · rw [if_neg h, if_neg (by simpa using h)]
      exact ofBits_neg_inf
  | succ k => rw [if_pos (.inr (Nat.succ_ne_zero k))]; exact st_prev kp kc q c j

theorem folded_apply (n qb : Nat) (hn : n < 4) (kp kc : FVec Ideal S128x128 .bf16) (q : FVec Ideal S256x128 .bf16)
    (c : Fin 128) (j : Fin 256) :
    folded n qb (st kp kc q) (ix2 c j)
      = if j.val % 128 < c.val then (if n ≠ 0 ∨ qb ≠ 0 then ∑ l : Fin 128, kp (ix2 c l) * q (ix2 j l) else ⊥)
        else ∑ l : Fin 128, kc (ix2 c l) * q (ix2 j l) := by
  show Scalar.select (fromPrev (ix2 c j)) (prevScore n qb (st kp kc q) (ix2 c j)) _ = _
  rw [fromPrev_apply, select_ite, prevScore_apply n qb hn, st_cur]

theorem mRow_apply (u : FVec Ideal S128x256 .f32) (s : FVec Ideal S1x256 .f32) (j : Fin 256) :
    mRow u s (ix2 0 j) = max (Finset.univ.fold max ⊥ fun c => u (ix2 c j)) (s (ix2 0 j)) := by
  pointwise [mRow]
  rw [ofBits_neg_inf]

theorem attnOf_apply (vp vc : FVec Ideal S128x128 .bf16) (u : FVec Ideal S128x256 .f32) (s : FVec Ideal S1x256 .f32)
    (d : Fin 128) (j : Fin 256) :
    attnOf vp vc u s (ix2 d j) = SwaMath.kform (fun c => j.val % 128 < c.val) (fun c => u (ix2 c j)) (s (ix2 0 j))
      (fun c => vp (ix2 d c)) (fun c => vc (ix2 d c)) := by
  pointwise [attnOf, ot, et, denRow, eu]
  simp only [mRow_apply, fromPrev_apply, select_ite]
  unfold SwaMath.kform
  simp only [mul_ite, mul_zero]
  rfl

theorem sinkAt_apply (x0 : Vec Ideal S16 .f32) (h : Nat) (hh : h < 16) : sinkAt x0 h hh = x0 (ix1 ⟨h, hh⟩) := by
  pointwise [sinkAt]

theorem sinkRow_apply (a : Bool → Ideal .f32) (r : Bool) (i : Fin 128) :
    sinkRow (a false) (a true) (ix2 0 ⟨r.toNat * 128 + i.val, by cases r <;> simp <;> omega⟩) = a r * l2e := by
  pointwise [sinkRow]
  simp only [named_l2e]
  cases r
  · rw [dif_pos (by simp)]
  · rw [dif_neg (by simp)]

theorem half_apply (r : Bool) (x : FVec Ideal S128x256 .f32) (d i : Fin 128) :
    half r x (ix2 d i) = x (ix2 d ⟨r.toNat * 128 + i.val, by cases r <;> simp <;> omega⟩) := by
  cases r
  · pointwise [half]
    simp
  · pointwise [half]
    simp

theorem merge_apply (a : Bool → FVec Ideal S128x128 .f32) (p : Bool) (i : Fin 128) (e : Fin 64) :
    merge (a false) (a true) (ix3 0 i ⟨p.toNat * 64 + e.val, by cases p <;> simp <;> omega⟩)
      = a p (ix2 ⟨p.toNat * 64 + e.val, by cases p <;> simp <;> omega⟩ i) := by
  pointwise [merge]
  rw [loRow_apply, select_ite]
  cases p
  · rw [if_pos (by simp)]
  · rw [if_neg (by simp)]

/-- The written tile at query `i` and lane `e` of head `4g + 2r + p`. -/
theorem outTile_apply (n : Nat) (hn : n < 4) (x0 : Vec Ideal S16 .f32) (x1 : Vec Ideal S1x512x1024 .f32)
    (x2 : Vec Ideal S1x128x512 .f32) (x3 : Vec Ideal S1x512x512 .f32) (qb g : Nat) (hq : qb < 4) (hg : g < 4)
    (r p : Bool) (i : Fin 128) (e : Fin 64) :
    outTile n x0 x1 x2 x3 qb g hq hg r (ix3 0 i ⟨p.toNat * 64 + e.val, by cases p <;> simp <;> omega⟩)
      = SwaMath.kform (fun c => i.val < c.val)
          (fun c => if i.val < c.val then
              (if n ≠ 0 ∨ qb ≠ 0 then
                score (kvBlk x2 x3 qb (g / 2) (by omega) (by omega))
                  (qBlk x1 qb (2 * g + r.toNat) hq (by cases r <;> simp <;> omega)) g p c i else ⊥)
            else score (kvBlk x2 x3 (qb + 1) (g / 2) (by omega) (by omega))
                  (qBlk x1 qb (2 * g + r.toNat) hq (by cases r <;> simp <;> omega)) g p c i)
          (x0 (ix1 ⟨4 * g + 2 * r.toNat + p.toNat, by cases r <;> cases p <;> simp <;> omega⟩) * l2e)
          (fun c => kvBlk x2 x3 qb (2 + g / 2) (by omega) (by omega) (ix3 0 c ⟨g % 2 * 64 + e.val, by omega⟩))
          (fun c => kvBlk x2 x3 (qb + 1) (2 + g / 2) (by omega) (by omega) (ix3 0 c ⟨g % 2 * 64 + e.val, by omega⟩)) := by
  unfold outTile
  rw [merge_apply (fun p => half r (attn n x0 x1 x2 x3 qb g hq hg p)) p i e]
  rw [half_apply]
  unfold attn
  rw [attnOf_apply]
  have hj : (r.toNat * 128 + i.val) % 128 = i.val := by cases r <;> simp <;> omega
  have hs := sinkRow_apply (fun r => sinkAt x0 (4 * g + 2 * r.toNat + p.toNat) (by cases r <;> cases p <;> simp <;> omega)) r i
  simp only [Bool.toNat_false, Bool.toNat_true, Nat.mul_zero, Nat.mul_one, Nat.add_zero] at hs
  rw [hs, sinkAt_apply]
  simp only [folded_apply n qb hn, hj, vTile_apply]
  have hsc : ∀ (kx : Vec Ideal S1x128x128 .f32) (c : Fin 128), _ := fun kx c =>
    score_sum kx (fun r => qBlk x1 qb (2 * g + r.toNat) hq (by cases r <;> simp <;> omega)) g p r c i
  simp only [Bool.toNat_false, Bool.toNat_true, Nat.add_zero] at hsc
  simp only [hsc]
  congr 1
  · funext c
    refine congrArg _ (congrArg _ (Fin.ext ?_))
    exact lane_swap p g e.val e.isLt
  · funext c
    refine congrArg _ (congrArg _ (Fin.ext ?_))
    exact lane_swap p g e.val e.isLt

end Cert.Swa
-- ==== Proof.SwaMask.lean ====
/-
  The band mask of the reference attention: its words read as integers.
-/
module

public import Idealize.ShloMosaic.Lib.WordCmp
public import Idealize.ShloMosaic.Lib.Pointwise

@[expose] public section

namespace Cert.SwaRef

open Idealize.ShloMosaic

/-- The distance of query `i` of block `n` from band entry `k`, as a signed word. -/
theorem dist_word (n i k : Nat) (hn : n < 16) (hi : i < 128) (hk : k < 256) :
    (IntOp.subi (IntOp.addi (IntOp.muli (BitVec.ofNat 32 n) 128#32) (BitVec.ofNat 32 i))
      (IntOp.addi (IntOp.muli (IntOp.subi (BitVec.ofNat 32 n) 1#32) 128#32) (BitVec.ofNat 32 k))).toInt
      = (i : Int) + 128 - k := by
  simp only [IntOp.subi, IntOp.addi, IntOp.muli, BitVec.toInt_eq_toNat_cond, BitVec.toNat_sub, BitVec.toNat_add,
    BitVec.toNat_mul, BitVec.toNat_ofNat]
  omega

/-- The absolute position of band entry `k`. -/
theorem kpos_word (n k : Nat) (hn : n < 16) (hk : k < 256) :
    (IntOp.addi (IntOp.muli (IntOp.subi (BitVec.ofNat 32 n) 1#32) 128#32) (BitVec.ofNat 32 k)).toInt
      = ((n : Int) - 1) * 128 + k := by
  simp only [IntOp.subi, IntOp.addi, IntOp.muli, BitVec.toInt_eq_toNat_cond, BitVec.toNat_sub, BitVec.toNat_add,
    BitVec.toNat_mul, BitVec.toNat_ofNat]
  omega

/-- The band mask in words is the band mask. -/
theorem mask_word (n i k : Nat) (hn : n < 16) (hi : i < 128) (hk : k < 256) :
    IntOp.andi
      (IntOp.andi
        (IntOp.cmpi .sge
          (IntOp.subi (IntOp.addi (IntOp.muli (BitVec.ofNat 32 n) 128#32) (BitVec.ofNat 32 i))
            (IntOp.addi (IntOp.muli (IntOp.subi (BitVec.ofNat 32 n) 1#32) 128#32) (BitVec.ofNat 32 k)))
          0#32)
        (IntOp.cmpi .slt
          (IntOp.subi (IntOp.addi (IntOp.muli (BitVec.ofNat 32 n) 128#32) (BitVec.ofNat 32 i))
            (IntOp.addi (IntOp.muli (IntOp.subi (BitVec.ofNat 32 n) 1#32) 128#32) (BitVec.ofNat 32 k)))
          128#32))
      (IntOp.cmpi .sge
        (IntOp.addi (IntOp.muli (IntOp.subi (BitVec.ofNat 32 n) 1#32) 128#32) (BitVec.ofNat 32 k)) 0#32)
      = if i < k ∧ k ≤ i + 128 ∧ (n ≠ 0 ∨ 128 ≤ k) then 1#1 else 0#1 := by
  have e0 : (0#32 : BitVec 32).toInt = 0 := rfl
  have e1 : (128#32 : BitVec 32).toInt = 128 := rfl
  rw [WordCmp.cmpi_sge_eq, WordCmp.cmpi_slt_eq, WordCmp.cmpi_sge_eq, dist_word n i k hn hi hk, kpos_word n k hn hk, e0, e1]
  have hb : ∀ p q r : Bool, IntOp.andi (IntOp.andi (BitVec.ofBool p) (BitVec.ofBool q)) (BitVec.ofBool r)
      = if (p && q && r) then 1#1 else 0#1 := by decide
  rw [hb]
  simp only [Bool.and_eq_true, decide_eq_true_eq]
  refine if_congr ?_ rfl rfl
  omega

end Cert.SwaRef
-- ==== Proof.SwaRef.lean ====
/-
  The reference attention read at an index: one query, one head, as the softmax form of `SwaMath`.
-/
module

public import proofs.«01_k».proof.Proof.Gen.ReferenceIdeal.Read
public import proofs.«01_k».proof.Proof.SwaMath
public import Idealize.ShloMosaic.Lib.Pointwise
public import proofs.«01_k».proof.Proof.SwaMask

@[expose] public section

noncomputable section

namespace Cert.SwaRef

open Idealize.ShloMosaic Idealize.ShloMosaic.TcCoe Idealize.SL.Sem
open Cert.ReferenceIdeal Cert.ReferenceIdeal.Gen Cert.ReferenceIdeal.Read

variable (x0 : (⟨S8x2048x1024, .f32⟩ : BufTy).Contents (Elt Ideal)) (x1 : (⟨S8x2048x512, .f32⟩ : BufTy).Contents (Elt Ideal))
  (x2 : (⟨S1x16, .f32⟩ : BufTy).Contents (Elt Ideal)) (b : Fin 8) (n : Fin 16) (i : Fin 128) (g a : Fin 4)

/-- Row `c` of the block before block `n`: zero before the first block. -/
def prevRow (c : Fin 128) (l : Fin 512) : EReal :=
  if h : n.val * 128 + c.val < 128 then 0 else x1 (ix3 b ⟨n.val * 128 + c.val - 128, by omega⟩ l)

/-- Row `c` of block `n`. -/
def curRow (c : Fin 128) (l : Fin 512) : EReal := x1 (ix3 b ⟨n.val * 128 + c.val, by omega⟩ l)

/-- The score of a key row against query `i` of head `4g + a`. -/
def score (k : Fin 512 → EReal) : EReal :=
  (∑ d : Fin 64, k ⟨g.val * 64 + d.val, by omega⟩
    * x0 (ix3 b ⟨n.val * 128 + i.val, by omega⟩ ⟨g.val * 256 + a.val * 64 + d.val, by omega⟩)) * ((1 / 8 : ℝ) : EReal)

theorem key_apply (k : Fin 256) (d : Fin 64) :
    val_main_v46 (F := Ideal) x1 (ix5 b n k g d)
      = if h : k.val < 128 then prevRow x1 b n ⟨k.val, h⟩ ⟨g.val * 64 + d.val, by omega⟩
        else curRow x1 b n ⟨k.val - 128, by omega⟩ ⟨g.val * 64 + d.val, by omega⟩ := by
  pointwise [val_main_v46, val_main_v45, val_main_v44, val_main_v43, val_main_v42, val_main_v41, val_main_cst, val_main_v3, val_main_v0]
  split
  · rfl
  · rw [dif_neg (by omega)]
    unfold curRow
    refine congrArg x1 (congrArg (ix3 b · _) (Fin.ext ?_))
    show (1 + n.val) * 128 + (k.val - 128) - 128 = n.val * 128 + (k.val - 128)
    omega

theorem value_apply (k : Fin 256) (d : Fin 64) :
    val_main_v53 (F := Ideal) x1 (ix5 b n k g d)
      = if h : k.val < 128 then prevRow x1 b n ⟨k.val, h⟩ ⟨256 + g.val * 64 + d.val, by omega⟩
        else curRow x1 b n ⟨k.val - 128, by omega⟩ ⟨256 + g.val * 64 + d.val, by omega⟩ := by
  pointwise [val_main_v53, val_main_v52, val_main_v51, val_main_v50, val_main_v49, val_main_v48, val_main_cst_5, val_main_v4, val_main_v1]
  split
  · unfold prevRow
    split
    · rfl
    · refine congrArg x1 (congrArg (ix3 b _ ·) (Fin.ext ?_))
      show 256 + (g.val * 64 + d.val) = 256 + g.val * 64 + d.val
      omega
  · rw [dif_neg (by omega)]
    unfold curRow
    refine congrArg x1 (congrArg₂ (ix3 b · ·) (Fin.ext ?_) (Fin.ext ?_))
    · show (1 + n.val) * 128 + (k.val - 128) - 128 = n.val * 128 + (k.val - 128)
      omega
    · show 256 + (g.val * 64 + d.val) = 256 + g.val * 64 + d.val
      omega

theorem query_apply (d : Fin 64) :
    val_main_v5 (F := Ideal) x0 (ix6 b n i g a d)
      = x0 (ix3 b ⟨n.val * 128 + i.val, by omega⟩ ⟨g.val * 256 + a.val * 64 + d.val, by omega⟩) := by
  pointwise [val_main_v5, val_main_v2]

theorem eighth : Ideal.ofBits .f32 0x3E000000#32 = ((1 / 8 : ℝ) : EReal) := by
  simp [Ideal.ofBits, Ideal.ieee]
  rw [← EReal.coe_mul]
  norm_num

theorem neg_inf : Ideal.ofBits .f32 0xFF800000#32 = ⊥ := by simp [Ideal.ofBits, Ideal.ieee]

theorem v57_apply (k : Fin 256) :
    val_main_v57 (F := Ideal) x0 x1 (ix6 b n g a i k)
      = if h : k.val < 128 then score x0 b n i g a (prevRow x1 b n ⟨k.val, h⟩)
        else score x0 b n i g a (curRow x1 b n ⟨k.val - 128, by omega⟩) := by
  pointwise [val_main_v57, val_main_v56, val_main_v55, val_main_v54, val_main_cst_6]
  simp only [key_apply, query_apply, eighth]
  unfold score
  split <;> rfl

theorem mask_apply (k : Fin 256) :
    val_main_call0_v1 (F := Ideal) (ix6 b n g a i k)
      = if i.val < k.val ∧ k.val ≤ i.val + 128 ∧ (n.val ≠ 0 ∨ 128 ≤ k.val) then 1#1 else 0#1 := by
  pointwise [val_main_call0_v1, val_main_v39, val_main_v38, val_main_v33, val_main_v37, val_main_v36, val_main_v34,
    val_main_v35, val_main_v32, val_main_v30, val_main_v28, val_main_v26, val_main_v27, val_main_v24, val_main_v25,
    val_main_v23, val_main_v14, val_main_v12, val_main_v13, val_main_v11, val_main_v10, val_main_v9, val_main_v7,
    val_main_v8, val_main_v6, val_main_v21, val_main_v22, val_main_v20, val_main_v19, val_main_v18, val_main_v16,
    val_main_v15, val_main_v17, val_main_v29, val_main_v31]
  exact mask_word n.val i.val k.val n.isLt i.isLt k.isLt

theorem v58_apply (k : Fin 256) :
    val_main_v58 (F := Ideal) x0 x1 (ix6 b n g a i k)
      = if h : k.val < 128 then (if i.val < k.val then (if n.val ≠ 0 then score x0 b n i g a (prevRow x1 b n ⟨k.val, h⟩) else ⊥) else ⊥)
        else (if i.val < k.val - 128 then ⊥ else score x0 b n i g a (curRow x1 b n ⟨k.val - 128, by omega⟩)) := by
  rw [val_main_v58_apply, mask_apply, v57_apply]
  have hinf : val_main_call0_v2 (F := Ideal) (ix6 b n g a i k) = ⊥ := by
    rw [val_main_call0_v2_apply]
    exact neg_inf
  rw [hinf]
  have hk := k.isLt
  by_cases h : k.val < 128
  · rw [dif_pos h, dif_pos h]
    by_cases h1 : i.val < k.val
    · by_cases h2 : n.val ≠ 0
      · rw [if_pos ⟨h1, by omega, .inl h2⟩, if_pos h1, if_pos h2]; rfl
      · rw [if_neg (by omega), if_pos h1, if_neg h2]; rfl
    · rw [if_neg (by omega), if_neg h1]; rfl
  · rw [dif_neg h, dif_neg h]
    by_cases h1 : i.val < k.val - 128
    · rw [if_neg (by omega), if_pos h1]; rfl
    · rw [if_pos (by omega), if_neg h1]; rfl

theorem v62_apply (k : Fin 257) :
    val_main_v62 (F := Ideal) x0 x1 x2 (ix6 b n g a i k)
      = if h : k.val < 256 then val_main_v58 x0 x1 (ix6 b n g a i ⟨k.val, h⟩) else x2 (ix2 0 ⟨g.val * 4 + a.val, by omega⟩) := by
  pointwise [val_main_v62, val_main_v61, val_main_v60, val_main_v59]

/-- The masked scores of the block before. -/
def sP (c : Fin 128) : EReal :=
  if i.val < c.val then (if n.val ≠ 0 then score x0 b n i g a (prevRow x1 b n c) else ⊥) else ⊥

/-- The masked scores of the query's block. -/
def sC (c : Fin 128) : EReal := if i.val < c.val then ⊥ else score x0 b n i g a (curRow x1 b n c)

theorem row_prev (c : Fin 128) :
    val_main_v62 (F := Ideal) x0 x1 x2 (ix6 b n g a i ⟨c.val, by omega⟩) = sP x0 x1 b n i g a c := by
  rw [v62_apply, dif_pos (show c.val < 256 by omega), v58_apply, dif_pos c.isLt]
  rfl

theorem row_cur (c : Fin 128) :
    val_main_v62 (F := Ideal) x0 x1 x2 (ix6 b n g a i ⟨128 + c.val, by omega⟩) = sC x0 x1 b n i g a c := by
  rw [v62_apply, dif_pos (show 128 + c.val < 256 by omega), v58_apply,
    dif_neg (show ¬(128 + c.val < 128) by omega)]
  have h : (⟨128 + c.val - 128, by omega⟩ : Fin 128) = c := Fin.ext (by simp)
  unfold sC
  simp only [h, Nat.add_sub_cancel_left]

theorem row_sink :
    val_main_v62 (F := Ideal) x0 x1 x2 (ix6 b n g a i ⟨256, by omega⟩) = x2 (ix2 0 ⟨g.val * 4 + a.val, by omega⟩) := by
  rw [v62_apply, dif_neg (by simp)]

end Cert.SwaRef
-- ==== Proof.SwaRow.lean ====
/-
  The reference attention's softmax: maximum, denominator, and the result as the form of `SwaMath`.
-/
module

public import proofs.«01_k».proof.Proof.Gen.ReferenceIdeal.Read
public import proofs.«01_k».proof.Proof.SwaRef
public import Idealize.ShloMosaic.Lib.Pointwise
public import Idealize.ShloMosaic.Lib.WordCmp

@[expose] public section

noncomputable section

namespace Cert.SwaRef

open Idealize.ShloMosaic Idealize.ShloMosaic.TcCoe Idealize.SL.Sem
open Cert.ReferenceIdeal Cert.ReferenceIdeal.Gen Cert.ReferenceIdeal.Read

variable (x0 : (⟨S8x2048x1024, .f32⟩ : BufTy).Contents (Elt Ideal)) (x1 : (⟨S8x2048x512, .f32⟩ : BufTy).Contents (Elt Ideal))
  (x2 : (⟨S1x16, .f32⟩ : BufTy).Contents (Elt Ideal)) (b : Fin 8) (n : Fin 16) (i : Fin 128) (g a : Fin 4)

/-- The row's maximum. -/
def rowMax : EReal :=
  max (max (Finset.univ.fold max ⊥ (sP x0 x1 b n i g a)) (Finset.univ.fold max ⊥ (sC x0 x1 b n i g a)))
    (x2 (ix2 0 ⟨g.val * 4 + a.val, by omega⟩))

theorem v63_apply : val_main_v63 (F := Ideal) x0 x1 x2 (ix5 b n g a i) = rowMax x0 x1 x2 b n i g a := by
  have h : val_main_v63 (F := Ideal) x0 x1 x2 (ix5 b n g a i)
      = Finset.univ.fold max ⊥ fun k : Fin 257 => val_main_v62 (F := Ideal) x0 x1 x2 (ix6 b n g a i k) := by
    unfold val_main_v63
    generalize val_main_v62 (F := Ideal) x0 x1 x2 = z
    let y : S8x16x4x4x128x257.Idx → EReal := z
    show Host.reduce (max : EReal → EReal → EReal) y _ reducesTo_S8x16x4x4x128x257_S8x16x4x4x128_d5 h_S_ _ = _
    rw [Host.reduce_eq_fold_single (max : EReal → EReal → EReal) y _ reducesTo_S8x16x4x4x128x257_S8x16x4x4x128_d5 (by decide) h_S_]
    have hi : (val_main_cst_8 (F := Ideal)) (Shape.Idx.first h_S_) = ⊥ := neg_inf
    rw [hi]
    refine congrArg (fun f => Finset.fold max ⊥ f (Finset.univ : Finset (Fin 257))) (funext fun k => congrArg y (funext fun a => Fin.ext ?_))
    match a with
    | ⟨0, _⟩ => rfl
    | ⟨1, _⟩ => rfl
    | ⟨2, _⟩ => rfl
    | ⟨3, _⟩ => rfl
    | ⟨4, _⟩ => rfl
    | ⟨5, _⟩ => rfl
  rw [h, SwaMath.fold_three]
  simp only [row_prev, row_cur, row_sink]
  rfl

theorem v65_apply : val_main_v65 (F := Ideal) x0 x1 x2 (ix5 b n g a i) = rowMax x0 x1 x2 b n i g a := by
  rw [val_main_v65_apply, v63_apply, val_main_v64_apply]
  have hi : (val_main_cst_9 (F := Ideal)) (idx_main_v64 (ix5 b n g a i)) = ⊥ := neg_inf
  rw [hi]
  exact max_eq_right bot_le

theorem v69_apply (k : Fin 257) :
    val_main_v69 (F := Ideal) x0 x1 x2 (ix6 b n g a i k)
      = Ideal.exp (val_main_v62 (F := Ideal) x0 x1 x2 (ix6 b n g a i k) - rowMax x0 x1 x2 b n i g a) := by
  pointwise [val_main_v69, val_main_v68, val_main_v67, val_main_v66]
  rw [v65_apply]

/-- The row's denominator. -/
def rowDen : EReal :=
  ∑ c : Fin 128, Ideal.exp (sP x0 x1 b n i g a c - rowMax x0 x1 x2 b n i g a)
    + ∑ c : Fin 128, Ideal.exp (sC x0 x1 b n i g a c - rowMax x0 x1 x2 b n i g a)
    + Ideal.exp (x2 (ix2 0 ⟨g.val * 4 + a.val, by omega⟩) - rowMax x0 x1 x2 b n i g a)

theorem v70_apply : val_main_v70 (F := Ideal) x0 x1 x2 (ix5 b n g a i) = rowDen x0 x1 x2 b n i g a := by
  rw [val_main_v70_apply]
  have hidx : ∀ k : Fin 257, idx_main_v70 (ix5 b n g a i) k = ix6 b n g a i k := fun k => funext fun a => Fin.ext (by
    match a with
    | ⟨0, _⟩ => rfl
    | ⟨1, _⟩ => rfl
    | ⟨2, _⟩ => rfl
    | ⟨3, _⟩ => rfl
    | ⟨4, _⟩ => rfl
    | ⟨5, _⟩ => rfl)
  have hi : (val_main_cst_10 (F := Ideal)) (Shape.Idx.first h_S_) = 0 := Ideal.ofBits_zero_f32
  rw [hi, zero_add]
  simp only [hidx, v69_apply]
  rw [SwaMath.sum_three]
  simp only [row_prev, row_cur, row_sink]
  rfl

theorem v73_apply (k : Fin 257) :
    val_main_v73 (F := Ideal) x0 x1 x2 (ix6 b n g a i k)
      = Ideal.div (Ideal.exp (val_main_v62 (F := Ideal) x0 x1 x2 (ix6 b n g a i k) - rowMax x0 x1 x2 b n i g a))
          (rowDen x0 x1 x2 b n i g a) := by
  pointwise [val_main_v73, val_main_v72, val_main_v71]
  rw [v69_apply, v70_apply]

theorem v78_apply (r : Fin 2048) (l : Fin 1024) :
    val_main_v78 (F := Ideal) x0 x1 x2 (ix3 b r l)
      = ∑ k : Fin 256, val_main_v53 (F := Ideal) x1 (ix5 b ⟨r.val / 128, by omega⟩ k ⟨l.val / 256, by omega⟩ ⟨l.val % 64, by omega⟩)
          * val_main_v73 (F := Ideal) x0 x1 x2 (ix6 b ⟨r.val / 128, by omega⟩ ⟨l.val / 256, by omega⟩
              ⟨l.val / 64 % 4, by omega⟩ ⟨r.val % 128, by omega⟩ ⟨k.val, by omega⟩) := by
  pointwise [val_main_v78, val_main_v77, val_main_v76, val_main_v75, val_main_v74]

/-- The reference's element for query `i` of block `n`, lane `e` of head `4g + a`. -/
theorem ref_apply (e : Fin 64) :
    val_main_v78 (F := Ideal) x0 x1 x2 (ix3 b ⟨n.val * 128 + i.val, by omega⟩ ⟨g.val * 256 + a.val * 64 + e.val, by omega⟩)
      = SwaMath.rform (sP x0 x1 b n i g a) (sC x0 x1 b n i g a) (x2 (ix2 0 ⟨g.val * 4 + a.val, by omega⟩))
          (fun c => prevRow x1 b n c ⟨256 + g.val * 64 + e.val, by omega⟩)
          (fun c => curRow x1 b n c ⟨256 + g.val * 64 + e.val, by omega⟩) := by
  rw [v78_apply]
  have e1 : (⟨(n.val * 128 + i.val) / 128, by omega⟩ : Fin 16) = n := Fin.ext (by show (n.val * 128 + i.val) / 128 = n.val; omega)
  have e2 : (⟨(n.val * 128 + i.val) % 128, by omega⟩ : Fin 128) = i := Fin.ext (by show (n.val * 128 + i.val) % 128 = i.val; omega)
  have e3 : (⟨(g.val * 256 + a.val * 64 + e.val) / 256, by omega⟩ : Fin 4) = g := Fin.ext (by
    show (g.val * 256 + a.val * 64 + e.val) / 256 = g.val; omega)
  have e4 : (⟨(g.val * 256 + a.val * 64 + e.val) / 64 % 4, by omega⟩ : Fin 4) = a := Fin.ext (by
    show (g.val * 256 + a.val * 64 + e.val) / 64 % 4 = a.val; omega)
  have e5 : (⟨(g.val * 256 + a.val * 64 + e.val) % 64, by omega⟩ : Fin 64) = e := Fin.ext (by
    show (g.val * 256 + a.val * 64 + e.val) % 64 = e.val; omega)
  simp only [e1, e2, e3, e4, e5]
  rw [SwaMath.sum_two]
  unfold SwaMath.rform
  have hP : ∀ c : Fin 128, val_main_v53 (F := Ideal) x1 (ix5 b n ⟨c.val, by omega⟩ g e)
      = prevRow x1 b n c ⟨256 + g.val * 64 + e.val, by omega⟩ := fun c => by
    rw [value_apply, dif_pos c.isLt]
  have hC : ∀ c : Fin 128, val_main_v53 (F := Ideal) x1 (ix5 b n ⟨128 + c.val, by omega⟩ g e)
      = curRow x1 b n c ⟨256 + g.val * 64 + e.val, by omega⟩ := fun c => by
    rw [value_apply, dif_neg (by simp)]
    exact congrArg (curRow x1 b n · _) (Fin.ext (by simp))
  simp only [hP, hC, v73_apply, row_prev, row_cur]
  rfl

end Cert.SwaRef
-- ==== Proof.SwaPre.lean ====
/-
  The precondition of the attention claim read back: queries, keys and sinks are real numbers.
-/
module

public import proofs.«01_k».proof.Defs
public import Idealize.ShloMosaic.Lib.ReduceAll
public import Idealize.ShloMosaic.Lib.Pointwise

@[expose] public section

noncomputable section

namespace Cert.SwaEq

open Idealize.ShloMosaic Idealize.ShloMosaic.TcCoe Idealize.SL.Sem
open Cert.KernelIdeal (S8x2048x1024 S8x2048x512 S1x16)

/-- Queries, keys and sinks are real numbers. -/
structure Real3 (x0 : S8x2048x1024.Idx → EReal) (x1 : S8x2048x512.Idx → EReal) (x2 : S1x16.Idx → EReal) : Prop where
  query : ∀ j, ∃ r : ℝ, x0 j = (r : EReal)
  key : ∀ (b : Fin 8) (s : Fin 2048) (l : Fin 512), l.val < 256 → ∃ r : ℝ, x1 (ix3 b s l) = (r : EReal)
  sink : ∀ j, ∃ r : ℝ, x2 j = (r : EReal)

/-- The side conditions of the precondition. -/
instance preFacts : Cert.Pre_finite_scores.Facts where
  bcast_S_S8x2048x1024 := by decide
  reducesTo_S8x2048x1024_S_d0_1_2 := by decide
  h_S_ := by decide
  slices_S8x2048x512_S8x2048x256_0_0_0 := by decide
  bcast_S_S8x2048x256 := by decide
  reducesTo_S8x2048x256_S_d0_1_2 := by decide
  bcast_S_S1x16 := by decide
  reducesTo_S1x16_S_d0_1 := by decide

theorem inf_word : Ideal.ofBits .f32 0x7F800000#32 = ⊤ := by simp [Ideal.ofBits, Ideal.ieee]

/-- An absolute value below +∞ is that of a real. -/
theorem real_of_abs_lt (x : EReal) (h : FloatOps.cmpf (F := Ideal) (φ := .f32) .olt (max x (-x)) (Ideal.ofBits .f32 0x7F800000#32) = 1#1) :
    ∃ r : ℝ, x = (r : EReal) := by
  rw [inf_word] at h
  have h' : BitVec.ofBool (decide (max x (-x) < ⊤)) = 1#1 := h
  have hl : max x (-x) < ⊤ := by
    by_contra hc
    rw [decide_eq_false hc] at h'
    exact absurd h' (by decide)
  induction x with
  | bot => exact absurd hl (by simp)
  | top => exact absurd hl (by simp)
  | coe r => exact ⟨r, rfl⟩

theorem andi_one {a b : BitVec 1} (h : IntOp.andi a b = 1#1) : a = 1#1 ∧ b = 1#1 := by
  revert a b
  decide

instance : Subsingleton Cert.Pre_finite_scores.S_.Idx := ⟨fun a b => funext fun i => i.elim0⟩

theorem real3_of_pre (x0 : S8x2048x1024.Idx → EReal) (x1 : S8x2048x512.Idx → EReal) (x2 : S1x16.Idx → EReal)
    (h : Cert.Pre_finite_scores.fn (F := Ideal) x0 x1 x2 = fun _ => 1#1) : Real3 x0 x1 x2 := by
  have h0 := congrFun h (Shape.Idx.first (show 0 < Cert.Pre_finite_scores.S_.numel by decide))
  obtain ⟨h12, h3⟩ := andi_one h0
  obtain ⟨h1, h2⟩ := andi_one h12
  refine ⟨fun j => ?_, fun b s l hl => ?_, fun j => ?_⟩
  · exact real_of_abs_lt _ (Host.reduce_andi_all _ _ _ _ _ h1 j)
  · have hk := Host.reduce_andi_all _ _ _ _ _ h2 (ix3 b s ⟨l.val, hl⟩)
    have hr := real_of_abs_lt _ hk
    obtain ⟨r, hr⟩ := hr
    refine ⟨r, Eq.trans (congrArg x1 ?_) hr⟩
    refine funext fun a => Fin.ext ?_
    match a with
    | ⟨0, _⟩ => show b.val = 0 + b.val; omega
    | ⟨1, _⟩ => show s.val = 0 + s.val; omega
    | ⟨2, _⟩ => show l.val = 0 + l.val; omega
  · exact real_of_abs_lt _ (Host.reduce_andi_all _ _ _ _ _ h3 j)

end Cert.SwaEq
-- ==== Proof.SwaEq.lean ====
/-
  A tile of the attention kernel is the reference at its place, when queries, keys and sinks are real.
-/
module

public import proofs.«01_k».proof.Proof.SwaBlock
public import proofs.«01_k».proof.Proof.SwaRead
public import proofs.«01_k».proof.Proof.SwaRow
public import proofs.«01_k».proof.Proof.SwaPre
public import proofs.«01_k».proof.Proof.Gen.ReferenceIdeal.Run

@[expose] public section

noncomputable section

namespace Cert.SwaEq

open Idealize.ShloMosaic Idealize.ShloMosaic.TcCoe Idealize.SL.Sem
open Cert.KernelIdeal (S8x2048x1024 S8x2048x512 S1x16 S16 S1x512x1024 S1x128x512 S1x512x512 S1x128x128)
open Cert.Swa Cert.SwaRef Cert.SwaMath

variable {x0 : S8x2048x1024.Idx → EReal} {x1 : S8x2048x512.Idx → EReal} {x2 : S1x16.Idx → EReal} {b : Fin 8} {n : Fin 4}
  {X0 : Vec Ideal S16 .f32} {X1 : Vec Ideal S1x512x1024 .f32} {X2 : Vec Ideal S1x128x512 .f32} {X3 : Vec Ideal S1x512x512 .f32}

/-- Query block `qb` of step `n` as one of the sixteen. -/
abbrev blkNo (n : Fin 4) (qb : Nat) (hq : qb < 4) : Fin 16 := ⟨n.val * 4 + qb, by omega⟩

theorem cur_row (h : Blocks x0 x1 x2 b n X0 X1 X2 X3) (qb o : Nat) (hq : qb < 4) (ho : o < 4) (c l : Fin 128) :
    kvBlk X2 X3 (qb + 1) o (by omega) ho (ix3 0 c l) = curRow x1 b (blkNo n qb hq) c ⟨o * 128 + l.val, by omega⟩ := by
  pointwise [kvBlk]
  rw [h.cur]
  unfold curRow
  refine congrArg x1 (congrArg (ix3 b · _) (Fin.ext ?_))
  show n.val * 512 + (qb * 128 + c.val) = (n.val * 4 + qb) * 128 + c.val
  omega

theorem prev_row (h : Blocks x0 x1 x2 b n X0 X1 X2 X3) (qb o : Nat) (hq : qb < 4) (ho : o < 4) (c l : Fin 128)
    (hn : n.val ≠ 0 ∨ qb ≠ 0) :
    kvBlk X2 X3 qb o (by omega) ho (ix3 0 c l) = prevRow x1 b (blkNo n qb hq) c ⟨o * 128 + l.val, by omega⟩ := by
  unfold prevRow
  rw [dif_neg (by show ¬((n.val * 4 + qb) * 128 + c.val < 128); omega)]
  cases qb with
  | zero =>
    pointwise [kvBlk]
    rw [h.prev]
    refine congrArg x1 (congrArg (ix3 b · _) (Fin.ext ?_))
    show (4 * n.val - 1) * 128 + c.val = (n.val * 4 + 0) * 128 + c.val - 128
    omega
  | succ k =>
    pointwise [kvBlk]
    rw [h.cur]
    refine congrArg x1 (congrArg (ix3 b · _) (Fin.ext ?_))
    show n.val * 512 + (k * 128 + c.val) = (n.val * 4 + (k + 1)) * 128 + c.val - 128
    omega

theorem query_row (h : Blocks x0 x1 x2 b n X0 X1 X2 X3) (qb o : Nat) (hq : qb < 4) (ho : o < 8) (i l : Fin 128) :
    qBlk X1 qb o hq ho (ix3 0 i l)
      = x0 (ix3 b ⟨(blkNo n qb hq).val * 128 + i.val, by have := (blkNo n qb hq).isLt; omega⟩ ⟨o * 128 + l.val, by omega⟩) := by
  pointwise [qBlk]
  rw [h.query]
  refine congrArg x0 (congrArg (ix3 b · _) (Fin.ext ?_))
  show n.val * 512 + (qb * 128 + i.val) = (n.val * 4 + qb) * 128 + i.val
  omega

/-- A score of the kernel is the reference's in base 2. -/
theorem score_scaled (hx : Real3 x0 x1 x2) (h : Blocks x0 x1 x2 b n X0 X1 X2 X3) (qb g : Nat) (hq : qb < 4) (hg : g < 4)
    (r p : Bool) (a : Fin 4) (ha : a.val = 2 * r.toNat + p.toNat) (ho : 2 * g + r.toNat < 8) (hgo : g / 2 < 4)
    (kx : Vec Ideal S1x128x128 .f32) (row : Fin 512 → EReal) (c i : Fin 128)
    (hk : ∀ l : Fin 128, kx (ix3 0 c l) = row ⟨g / 2 * 128 + l.val, by omega⟩)
    (hr : ∀ l : Fin 512, l.val < 256 → ∃ r : ℝ, row l = (r : EReal)) :
    Swa.score kx (qBlk X1 qb (2 * g + r.toNat) hq ho) g p c i
      = SwaRef.score x0 b (blkNo n qb hq) i ⟨g, hg⟩ a row * l2e
    ∧ Seen (SwaRef.score x0 b (blkNo n qb hq) i ⟨g, hg⟩ a row) := by
  have hp : p.toNat ≤ 1 := by cases p <;> simp
  have hr1 : r.toNat ≤ 1 := by cases r <;> simp
  choose kr hkr using fun d : Fin 64 => hr ⟨g * 64 + d.val, by omega⟩ (by show g * 64 + d.val < 256; omega)
  choose qr hqr using fun d : Fin 64 => hx.query (ix3 b
    ⟨(blkNo n qb hq).val * 128 + i.val, by have := (blkNo n qb hq).isLt; omega⟩
    ⟨g * 256 + a.val * 64 + d.val, by have := a.isLt; omega⟩)
  have e1 : Swa.score kx (qBlk X1 qb (2 * g + r.toNat) hq ho) g p c i
      = ∑ d : Fin 64, (kr d : EReal) * ((qr d : EReal) * qs) := by
    unfold Swa.score
    refine Finset.sum_congr rfl fun d _ => ?_
    rw [hk, query_row h, ← hkr d, ← hqr d]
    refine congrArg₂ (fun u v : EReal => u * (v * qs)) (congrArg row (Fin.ext ?_)) (congrArg x0 (congrArg (ix3 b _ ·) (Fin.ext ?_)))
    · show g / 2 * 128 + (g % 2 * 64 + d.val) = g * 64 + d.val
      omega
    · show (2 * g + r.toNat) * 128 + (p.toNat * 64 + d.val) = g * 256 + a.val * 64 + d.val
      omega
  have e2 : SwaRef.score x0 b (blkNo n qb hq) i ⟨g, hg⟩ a row
      = (∑ d : Fin 64, (kr d : EReal) * (qr d : EReal)) * ((1 / 8 : ℝ) : EReal) := by
    unfold SwaRef.score
    refine congrArg (· * _) (Finset.sum_congr rfl fun d _ => ?_)
    rw [← hkr d, ← hqr d]
  rw [e1, e2]
  exact ⟨score_eq kr qr, score_seen kr qr⟩

/-- A tile is the reference at its place. -/
theorem tile_eq (hx : Real3 x0 x1 x2) (h : Blocks x0 x1 x2 b n X0 X1 X2 X3) (qb g : Nat) (hq : qb < 4) (hg : g < 4)
    (r p : Bool) (i : Fin 128) (e : Fin 64) :
    outTile n.val X0 X1 X2 X3 qb g hq hg r (ix3 0 i ⟨p.toNat * 64 + e.val, by cases p <;> simp <;> omega⟩)
      = Cert.ReferenceIdeal.Read.val_main_v78 (F := Ideal) x0 x1 x2 (ix3 b ⟨(n.val * 4 + qb) * 128 + i.val, by omega⟩
          ⟨g * 256 + (2 * r.toNat + p.toNat) * 64 + e.val, by cases r <;> cases p <;> simp <;> omega⟩) := by
  have hp : p.toNat ≤ 1 := by cases p <;> simp
  have hr1 : r.toNat ≤ 1 := by cases r <;> simp
  have ho : 2 * g + r.toNat < 8 := by omega
  obtain ⟨σ, hσ⟩ := hx.sink (ix2 0 ⟨g * 4 + (2 * r.toNat + p.toNat), by omega⟩)
  have hP : (n.val ≠ 0 ∨ qb ≠ 0) → ∀ c : Fin 128, _ := fun hn c =>
    score_scaled hx h qb g hq hg r p ⟨2 * r.toNat + p.toNat, by omega⟩ rfl ho (by omega)
      (kvBlk X2 X3 qb (g / 2) (by omega) (by omega)) (prevRow x1 b (blkNo n qb hq) c) c i
      (fun l => prev_row h qb (g / 2) hq (by omega) c l hn)
      (fun l hl => by
        unfold prevRow
        split
        · exact ⟨0, rfl⟩
        · exact hx.key _ _ _ hl)
  have hC : ∀ c : Fin 128, _ := fun c =>
    score_scaled hx h qb g hq hg r p ⟨2 * r.toNat + p.toNat, by omega⟩ rfl ho (by omega)
      (kvBlk X2 X3 (qb + 1) (g / 2) (by omega) (by omega)) (curRow x1 b (blkNo n qb hq) c) c i
      (fun l => cur_row h qb (g / 2) hq (by omega) c l)
      (fun l hl => hx.key _ _ _ hl)
  have hN : (blkNo n qb hq).val ≠ 0 ↔ (n.val ≠ 0 ∨ qb ≠ 0) := by
    show n.val * 4 + qb ≠ 0 ↔ _
    omega
  rw [outTile_apply n.val n.isLt]
  refine Eq.trans ?_ (ref_apply x0 x1 x2 b (blkNo n qb hq) i ⟨g, hg⟩ ⟨2 * r.toNat + p.toNat, by omega⟩ e).symm
  let A : Fin 128 → EReal := fun c => if i.val < c.val then
      (if (blkNo n qb hq).val ≠ 0 then SwaRef.score x0 b (blkNo n qb hq) i ⟨g, hg⟩ ⟨2 * r.toNat + p.toNat, by omega⟩ (prevRow x1 b (blkNo n qb hq) c) else ⊥)
    else SwaRef.score x0 b (blkNo n qb hq) i ⟨g, hg⟩ ⟨2 * r.toNat + p.toNat, by omega⟩ (curRow x1 b (blkNo n qb hq) c)
  have key := kform_eq_rform (fun c : Fin 128 => i.val < c.val) A (fun c => by
      show Seen (if _ then _ else _)
      split
      · split
        · rename_i hn; exact (hP (hN.mp hn) c).2
        · exact .inl rfl
      · exact (hC c).2) σ
    (fun c => kvBlk X2 X3 qb (2 + g / 2) (by omega) (by omega) (ix3 0 c ⟨g % 2 * 64 + e.val, by omega⟩))
    (fun c => kvBlk X2 X3 (qb + 1) (2 + g / 2) (by omega) (by omega) (ix3 0 c ⟨g % 2 * 64 + e.val, by omega⟩))
    (fun c => prevRow x1 b (blkNo n qb hq) c ⟨256 + g * 64 + e.val, by omega⟩) (fun c hc => by
      by_cases hn : n.val ≠ 0 ∨ qb ≠ 0
      · left
        rw [prev_row h qb (2 + g / 2) hq (by omega) c _ hn]
        refine congrArg (prevRow x1 b (blkNo n qb hq) c) (Fin.ext ?_)
        show (2 + g / 2) * 128 + (g % 2 * 64 + e.val) = 256 + g * 64 + e.val
        omega
      · right
        show (if _ then _ else _) = _
        rw [if_pos hc, if_neg (fun hh => hn (hN.mp hh))])
  refine Eq.trans (congrArg₂ (fun u s => kform (fun c : Fin 128 => i.val < c.val) u s _ _) (funext fun c => ?_) ?_)
    (key.trans ?_)
  · show _ = A c * _
    by_cases hc : i.val < c.val
    · have hA : A c = if (blkNo n qb hq).val ≠ 0 then _ else ⊥ := if_pos hc
      rw [if_pos hc, hA]
      by_cases hn : n.val ≠ 0 ∨ qb ≠ 0
      · rw [if_pos hn, if_pos (hN.mpr hn)]
        exact (hP hn c).1
      · rw [if_neg hn, if_neg (fun hh => hn (hN.mp hh)), bot_scaled]
    · have hA : A c = _ := if_neg hc
      rw [if_neg hc, hA]
      exact (hC c).1
  · rw [h.sink, ← hσ]
    refine congrArg (fun z => x2 (ix2 0 z) * l2e) (Fin.ext ?_)
    show 4 * g + 2 * r.toNat + p.toNat = g * 4 + (2 * r.toNat + p.toNat)
    omega
  · have u1 : (fun c : Fin 128 => if i.val < c.val then A c else ⊥)
        = sP x0 x1 b (blkNo n qb hq) i ⟨g, hg⟩ ⟨2 * r.toNat + p.toNat, by omega⟩ := funext fun c => by
      unfold sP
      by_cases hc : i.val < c.val
      · rw [if_pos hc, if_pos hc]
        exact if_pos hc
      · rw [if_neg hc, if_neg hc]
    have u2 : (fun c : Fin 128 => if i.val < c.val then ⊥ else A c)
        = sC x0 x1 b (blkNo n qb hq) i ⟨g, hg⟩ ⟨2 * r.toNat + p.toNat, by omega⟩ := funext fun c => by
      unfold sC
      by_cases hc : i.val < c.val
      · rw [if_pos hc, if_pos hc]
      · rw [if_neg hc, if_neg hc]
        exact if_neg hc
    have u3 : (fun c => kvBlk X2 X3 (qb + 1) (2 + g / 2) (by omega) (by omega) (ix3 0 c ⟨g % 2 * 64 + e.val, by omega⟩))
        = fun c => curRow x1 b (blkNo n qb hq) c ⟨256 + g * 64 + e.val, by omega⟩ := funext fun c => by
      rw [cur_row h qb (2 + g / 2) hq (by omega) c]
      refine congrArg (curRow x1 b (blkNo n qb hq) c) (Fin.ext ?_)
      show (2 + g / 2) * 128 + (g % 2 * 64 + e.val) = 256 + g * 64 + e.val
      omega
    rw [u1, u2, u3, ← hσ]

/-- The attention claim. -/
theorem algebraic : Cert.algebraic_KernelIdeal_ReferenceIdeal_pre_finite_scores := fun m g m' g' hpre hagree =>
  ⟨fun c => Cert.ReferenceIdeal.Read.val_main_v78 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    (θ_run Cert.KernelIdeal.defs _ _).mono (fun _ h c => ⟨(h c).1.trans (Cert.Swa.arr_eq m c _
      fun b n X0 X1 X2 X3 hB qb g hq hg r p q e => tile_eq (real3_of_pre _ _ _ (hpre c)) hB qb g hq hg r p q e),
      (h c).2⟩) (Cert.KernelIdeal.Value.run_blocks (F := Ideal) m g),
    (θ_run Cert.ReferenceIdeal.defs _ _).mono (fun _ h c => ⟨(h c).1.trans ((Cert.ReferenceIdeal.Read.val_main_v78_eq m' c).trans (by
      rw [(hagree c).1, (hagree c).2.1, (hagree c).2.2])), (h c).2⟩) (Cert.ReferenceIdeal.Value.run (F := Ideal) m' g')⟩

end Cert.SwaEq
-- ==== Proof.DenseTile.lean ====
/-
  The dense kernel's body, written once. The body walks 11 column chunks of the feed-forward part, and every turn stores
  the same payloads from other columns: the chunk's carried rows and its gate into the shift buffer, the buffer's last
  rows into the carry, and the activation into its own scratch. `gbuf`, `carry` and `act` are those stores after `n`
  turns; what a turn reads of the carry is the parameter `cin`, since the first point of a sequence zeroes it.
-/
module

public import proofs.«01_k».proof.Proof.Gen.Kernel2Ideal.Value
public import Idealize.ShloMosaic.PureOps.Ideal

@[expose] public section

noncomputable section

namespace Cert.Dense

open Idealize.ShloMosaic Idealize.ShloMosaic.TcCoe Idealize.SL.Sem
open Cert.Kernel2Ideal Cert.Kernel2Ideal.Gen

/-- The blocks a point reads, by their input's number. -/
structure Ins where
  x0 : Vec Ideal S1x512x1024 .bf16
  x1 : Vec Ideal S1x512x1024 .bf16
  x2 : Vec Ideal S1x512x2048 .f32
  x3 : Vec Ideal S1x512x1024 .f32
  x4 : Vec Ideal S1x1x1024 .f32
  x5 : Vec Ideal S1x1x1024 .f32
  x6 : Vec Ideal S1x1x1024 .f32
  x7 : Vec Ideal S1x1x1024 .f32
  x8 : Vec Ideal S1x1024 .f32
  x9 : Vec Ideal S1x1024 .f32
  x10 : Vec Ideal S1024x1024 .bf16
  x11 : Vec Ideal S1024x1024 .bf16
  x12 : Vec Ideal S1024x1024 .bf16
  x13 : Vec Ideal S1024x2816 .bf16
  x14 : Vec Ideal S1024x2816 .bf16
  x15 : Vec Ideal S3x2816 .f32
  x16 : Vec Ideal S1x2816 .f32
  x17 : Vec Ideal S2816x1024 .bf16

/-- The first half of the two mixers' gates. -/
def gaRect : Rect S1x512x2048 := Rect.unit (s := S1x512x2048) ![0, 0, 0] S1x512x1024.size inb_S1x512x2048_S1x512x1024_0_0_0
/-- The second half. -/
def gbRect : Rect S1x512x2048 := Rect.unit (s := S1x512x2048) ![0, 0, 1024] S1x512x1024.size inb_S1x512x2048_S1x512x1024_0_0_1024

/-- The mixed output under its gates. -/
def merged (I : Ins) : FVec Ideal S512x1024 .bf16 :=
  k0_pay6 (F := Ideal) I.x0 I.x10 I.x1 I.x11 (View.ld I.x2 gaRect) (View.ld I.x2 gbRect)

/-- The stream after the mixers. -/
def x1t (I : Ins) : FVec Ideal S512x1024 .f32 :=
  k0_pay7 (F := Ideal) (k0_pay3 (F := Ideal) I.x3) (k0_pay4 (F := Ideal) I.x4) (k0_pay5 (F := Ideal) I.x12) (merged I)

/-- The feed-forward part's input. -/
def h2t (I : Ins) : FVec Ideal S512x1024 .bf16 :=
  k0_pay8 (F := Ideal) (k0_pay3 (F := Ideal) I.x3) (k0_pay4 (F := Ideal) I.x4) (k0_pay5 (F := Ideal) I.x12) (merged I)
    I.x8 I.x6 I.x5

/-- Columns `k * 256 ..` of a projection. -/
def wRect (k : Nat) (h : k < 11) : Rect S1024x2816 :=
  Rect.unit (s := S1024x2816) ![0, k * 256] S1024x256.size (by intro a; fin_cases a <;> simp <;> omega)
/-- Those columns of the carried rows. -/
def cRect (k : Nat) (h : k < 11) : Rect S8x2816 :=
  Rect.unit (s := S8x2816) ![0, k * 256] S8x256.size (by intro a; fin_cases a <;> simp <;> omega)
/-- Those columns of the activation. -/
def aRect (k : Nat) (h : k < 11) : Rect S512x2816 :=
  Rect.unit (s := S512x2816) ![0, k * 256] S512x256.size (by intro a; fin_cases a <;> simp <;> omega)
/-- Those columns of tap `j` of the convolution. -/
def tapRect (j k : Nat) (hj : j < 3) (h : k < 11) : Rect S3x2816 :=
  Rect.unit (s := S3x2816) ![j, k * 256] S1x256.size (by intro a; fin_cases a <;> simp <;> omega)
/-- Those columns of its bias. -/
def biasRect (k : Nat) (h : k < 11) : Rect S1x2816 :=
  Rect.unit (s := S1x2816) ![0, k * 256] S1x256.size (by intro a; fin_cases a <;> simp <;> omega)
/-- Rows `o ..` of the shift buffer, as many as a tile has. -/
def gRect (o : Nat) (h : o ≤ 8) : Rect S520x256 :=
  Rect.unit (s := S520x256) ![o, 0] S512x256.size (by intro a; fin_cases a <;> simp <;> omega)
/-- Its first eight rows. -/
def headRect : Rect S520x256 := Rect.unit (s := S520x256) ![0, 0] S8x256.size inb_S520x256_S8x256_0_0
/-- Its last eight rows. -/
def tailRect : Rect S520x256 := Rect.unit (s := S520x256) ![512, 0] S8x256.size inb_S520x256_S8x256_512_0

/-- A chunk of the gate. -/
def gate (I : Ins) (k : Nat) (h : k < 11) : FVec Ideal S512x256 .f32 := k0_pay15 (F := Ideal) (h2t I) (View.ld I.x13 (wRect k h))
/-- A chunk of the up projection. -/
def up (I : Ins) (k : Nat) (h : k < 11) : FVec Ideal S512x256 .f32 := k0_pay15 (F := Ideal) (h2t I) (View.ld I.x14 (wRect k h))

/-- The stores into the shift buffer. -/
abbrev GStores := List (View.Piece (Elt Ideal) S520x256 .f32)
/-- The stores into the carry. -/
abbrev CStores := List (View.Piece (Elt Ideal) S8x2816 .f32)
/-- The stores into the activation. -/
abbrev AStores := List (View.Piece (Elt Ideal) S512x2816 .bf16)

/-- A turn's stores into the shift buffer. -/
def putG (I : Ins) (k : Nat) (h : k < 11) (c : Vec Ideal S8x256 .f32) (L : GStores) : GStores :=
  ⟨gRect 8 (le_refl 8), k0_pay12 (F := Ideal) (gate I k h)⟩ :: ⟨headRect, k0_pay13 (F := Ideal) c⟩ :: L

variable (vg : Memref sig .tc .vmem S520x256 .f32)

/-- A turn's store into the carry, of the shift buffer's last rows. -/
def putC (k : Nat) (h : k < 11) (G : GStores) (L : CStores) : CStores :=
  ⟨cRect k h, k0_pay13 (F := Ideal) (vg.view.readCov G tailRect.toLoadRect)⟩ :: L

/-- A turn's store into the activation. -/
def putA (I : Ins) (k : Nat) (h : k < 11) (G : GStores) (L : AStores) : AStores :=
  ⟨aRect k h, k0_pay80 (F := Ideal) (gate I k h) (up I k h) (vg.view.readCov G (gRect 6 (by omega)).toLoadRect)
    (vg.view.readCov G (gRect 7 (by omega)).toLoadRect) (View.ld I.x15 (tapRect 0 k (by omega) h))
    (View.ld I.x15 (tapRect 1 k (by omega) h)) (View.ld I.x15 (tapRect 2 k (by omega) h)) (View.ld I.x16 (biasRect k h))⟩ :: L

variable (I : Ins) (cin : (k : Nat) → k < 11 → CStores → Vec Ideal S8x256 .f32) (init : CStores)

/-- The stores into the shift buffer and into the carry after `n` turns. -/
def gc : (n : Nat) → n ≤ 11 → GStores × CStores
  | 0, _ => ([], init)
  | k + 1, h =>
    (putG I k h (cin k h (gc k (Nat.le_of_lt h)).2) (gc k (Nat.le_of_lt h)).1,
      putC vg k h (putG I k h (cin k h (gc k (Nat.le_of_lt h)).2) (gc k (Nat.le_of_lt h)).1) (gc k (Nat.le_of_lt h)).2)

/-- The stores into the activation after `n` turns. -/
def acts : (n : Nat) → n ≤ 11 → AStores
  | 0, _ => []
  | k + 1, h => putA vg I k h (gc vg I cin init (k + 1) h).1 (acts k (Nat.le_of_lt h))

variable (va : Memref sig .tc .vmem S512x2816 .bf16)

/-- The rows a point writes of the layer's output. -/
def yTile : FVec Ideal S1x512x1024 .f32 :=
  k0_pay1 (F := Ideal) (x1t I) I.x7
    (va.view.readCov (acts vg I cin init 11 (le_refl 11)) (Rect.unit (s := S512x2816) ![0, 0] S512x2816.size inb_S512x2816_S512x2816_0_0).toLoadRect)
    I.x17 I.x9

variable (vc : Memref sig .tc .vmem S8x2816 .f32)

/-- The carried rows a point writes. -/
def gTile : FVec Ideal S1x8x2816 .f32 :=
  k0_pay81 (F := Ideal)
    (vc.view.readCov (gc vg I cin init 11 (le_refl 11)).2 (Rect.unit (s := S8x2816) ![0, 0] S8x2816.size inb_S8x2816_S8x2816_0_0).toLoadRect)

/-- The first point of a sequence: the carry zeroed, then read as stored. -/
def initA : CStores := [⟨Rect.unit (s := S8x2816) ![0, 0] S8x2816.size inb_S8x2816_S8x2816_0_0, k0_pay2 (F := Ideal)⟩]
/-- What its turns read of the carry. -/
def cinA (k : Nat) (h : k < 11) (L : CStores) : Vec Ideal S8x256 .f32 := vc.view.readCov L (cRect k h).toLoadRect
/-- What a later point's turns read of the carry: the previous point's rows. -/
def cinB (s : Vec Ideal S8x2816 .f32) (k : Nat) (h : k < 11) (_L : CStores) : Vec Ideal S8x256 .f32 := View.ld s (cRect k h)

end Cert.Dense
-- ==== Proof.DensePieces.lean ====
/-
  The stores of the dense kernel's two generated runs, of a sequence's first point and of the others, are those of
  `Cert.Dense`.
-/
module

public import proofs.«01_k».proof.Proof.DenseTile
public import Idealize.ShloMosaic.Lib.Pipeline.Value

@[expose] public section

noncomputable section

namespace Cert.Dense

open Idealize.ShloMosaic Idealize.ShloMosaic.TcCoe Idealize.SL.Sem
open Cert.Kernel2Ideal Cert.Kernel2Ideal.Gen

set_option maxRecDepth 16384

variable (c : Dev nD) (i : grid0.Coords) (arg2 : Memref sig .tc .vmem S1x512x1024 .bf16) (harg2 : arg2.IsWhole)
  (arg3 : Memref sig .tc .vmem S1x512x1024 .bf16) (harg3 : arg3.IsWhole)
  (arg4 : Memref sig .tc .vmem S1x512x2048 .f32) (harg4 : arg4.IsWhole)
  (arg5 : Memref sig .tc .vmem S1x512x1024 .f32) (harg5 : arg5.IsWhole)
  (arg6 : Memref sig .tc .vmem S1x1x1024 .f32) (harg6 : arg6.IsWhole) (arg7 : Memref sig .tc .vmem S1x1x1024 .f32)
  (harg7 : arg7.IsWhole) (arg8 : Memref sig .tc .vmem S1x1x1024 .f32) (harg8 : arg8.IsWhole)
  (arg9 : Memref sig .tc .vmem S1x1x1024 .f32) (harg9 : arg9.IsWhole) (arg10 : Memref sig .tc .vmem S1x1024 .f32)
  (harg10 : arg10.IsWhole) (arg11 : Memref sig .tc .vmem S1x1024 .f32) (harg11 : arg11.IsWhole)
  (arg12 : Memref sig .tc .vmem S1024x1024 .bf16) (harg12 : arg12.IsWhole)
  (arg13 : Memref sig .tc .vmem S1024x1024 .bf16) (harg13 : arg13.IsWhole)
  (arg14 : Memref sig .tc .vmem S1024x1024 .bf16) (harg14 : arg14.IsWhole)
  (arg15 : Memref sig .tc .vmem S1024x2816 .bf16) (harg15 : arg15.IsWhole)
  (arg16 : Memref sig .tc .vmem S1024x2816 .bf16) (harg16 : arg16.IsWhole)
  (arg17 : Memref sig .tc .vmem S3x2816 .f32) (harg17 : arg17.IsWhole) (arg18 : Memref sig .tc .vmem S1x2816 .f32)
  (harg18 : arg18.IsWhole) (arg19 : Memref sig .tc .vmem S2816x1024 .bf16) (harg19 : arg19.IsWhole)
  (arg20 : Memref sig .tc .vmem S1x512x1024 .f32) (harg20 : arg20.IsWhole)
  (arg21 : Memref sig .tc .vmem S1x8x2816 .f32) (harg21 : arg21.IsWhole)
  (arg22 : Memref sig .tc .vmem S512x2816 .bf16) (harg22 : arg22.IsWhole)
  (arg23 : Memref sig .tc .vmem S520x256 .f32) (harg23 : arg23.IsWhole)
  (arg24 : Memref sig .tc .vmem S8x2816 .f32) (harg24 : arg24.IsWhole) (x0 : Vec Ideal S1x512x1024 .bf16)
  (x1 : Vec Ideal S1x512x1024 .bf16) (x2 : Vec Ideal S1x512x2048 .f32) (x3 : Vec Ideal S1x512x1024 .f32)
  (x4 : Vec Ideal S1x1x1024 .f32) (x5 : Vec Ideal S1x1x1024 .f32) (x6 : Vec Ideal S1x1x1024 .f32)
  (x7 : Vec Ideal S1x1x1024 .f32) (x8 : Vec Ideal S1x1024 .f32) (x9 : Vec Ideal S1x1024 .f32)
  (x10 : Vec Ideal S1024x1024 .bf16) (x11 : Vec Ideal S1024x1024 .bf16) (x12 : Vec Ideal S1024x1024 .bf16)
  (x13 : Vec Ideal S1024x2816 .bf16) (x14 : Vec Ideal S1024x2816 .bf16) (x15 : Vec Ideal S3x2816 .f32)
  (x16 : Vec Ideal S1x2816 .f32) (x17 : Vec Ideal S2816x1024 .bf16)

/-- The blocks as the run reads them. -/
abbrev rawIns : Ins :=
  ⟨View.ld (arg2.view.read (Elt Ideal) (harg2.unread x0)) (Rect.unit (s := S1x512x1024) ![0, 0, 0] S1x512x1024.size inb_S1x512x1024_S1x512x1024_0_0_0),
    View.ld (arg3.view.read (Elt Ideal) (harg3.unread x1)) (Rect.unit (s := S1x512x1024) ![0, 0, 0] S1x512x1024.size inb_S1x512x1024_S1x512x1024_0_0_0),
    arg4.view.read (Elt Ideal) (harg4.unread x2),
    View.ld (arg5.view.read (Elt Ideal) (harg5.unread x3)) (Rect.unit (s := S1x512x1024) ![0, 0, 0] S1x512x1024.size inb_S1x512x1024_S1x512x1024_0_0_0),
    View.ld (arg6.view.read (Elt Ideal) (harg6.unread x4)) (Rect.unit (s := S1x1x1024) ![0, 0, 0] S1x1x1024.size inb_S1x1x1024_S1x1x1024_0_0_0),
    View.ld (arg7.view.read (Elt Ideal) (harg7.unread x5)) (Rect.unit (s := S1x1x1024) ![0, 0, 0] S1x1x1024.size inb_S1x1x1024_S1x1x1024_0_0_0),
    View.ld (arg8.view.read (Elt Ideal) (harg8.unread x6)) (Rect.unit (s := S1x1x1024) ![0, 0, 0] S1x1x1024.size inb_S1x1x1024_S1x1x1024_0_0_0),
    View.ld (arg9.view.read (Elt Ideal) (harg9.unread x7)) (Rect.unit (s := S1x1x1024) ![0, 0, 0] S1x1x1024.size inb_S1x1x1024_S1x1x1024_0_0_0),
    View.ld (arg10.view.read (Elt Ideal) (harg10.unread x8)) (Rect.unit (s := S1x1024) ![0, 0] S1x1024.size inb_S1x1024_S1x1024_0_0),
    View.ld (arg11.view.read (Elt Ideal) (harg11.unread x9)) (Rect.unit (s := S1x1024) ![0, 0] S1x1024.size inb_S1x1024_S1x1024_0_0),
    View.ld (arg12.view.read (Elt Ideal) (harg12.unread x10)) (Rect.unit (s := S1024x1024) ![0, 0] S1024x1024.size inb_S1024x1024_S1024x1024_0_0),
    View.ld (arg13.view.read (Elt Ideal) (harg13.unread x11)) (Rect.unit (s := S1024x1024) ![0, 0] S1024x1024.size inb_S1024x1024_S1024x1024_0_0),
    View.ld (arg14.view.read (Elt Ideal) (harg14.unread x12)) (Rect.unit (s := S1024x1024) ![0, 0] S1024x1024.size inb_S1024x1024_S1024x1024_0_0),
    arg15.view.read (Elt Ideal) (harg15.unread x13),
    arg16.view.read (Elt Ideal) (harg16.unread x14),
    arg17.view.read (Elt Ideal) (harg17.unread x15),
    arg18.view.read (Elt Ideal) (harg18.unread x16),
    View.ld (arg19.view.read (Elt Ideal) (harg19.unread x17)) (Rect.unit (s := S2816x1024) ![0, 0] S2816x1024.size inb_S2816x1024_S2816x1024_0_0)⟩

/-- They are the blocks. -/
theorem rawIns_eq : rawIns arg2 harg2 arg3 harg3 arg4 harg4 arg5 harg5 arg6 harg6 arg7 harg7 arg8 harg8 arg9 harg9 arg10 harg10 arg11
  harg11 arg12 harg12 arg13 harg13 arg14 harg14 arg15 harg15 arg16 harg16 arg17 harg17 arg18 harg18 arg19 harg19
  x0 x1 x2 x3 x4 x5 x6 x7 x8 x9 x10 x11 x12 x13 x14 x15 x16 x17
    = ⟨x0, x1, x2, x3, x4, x5, x6, x7, x8, x9, x10, x11, x12, x13, x14, x15, x16, x17⟩ := by
  unfold rawIns
  rw [harg2.read_unread, harg3.read_unread, harg4.read_unread, harg5.read_unread, harg6.read_unread,
    harg7.read_unread, harg8.read_unread, harg9.read_unread, harg10.read_unread, harg11.read_unread,
    harg12.read_unread, harg13.read_unread, harg14.read_unread, harg15.read_unread, harg16.read_unread,
    harg17.read_unread, harg18.read_unread, harg19.read_unread, Ins.mk.injEq]
  exact ⟨View.ld_unit_zero (by decide) _ _, View.ld_unit_zero (by decide) _ _, rfl, View.ld_unit_zero (by decide) _ _,
    View.ld_unit_zero (by decide) _ _, View.ld_unit_zero (by decide) _ _, View.ld_unit_zero (by decide) _ _,
    View.ld_unit_zero (by decide) _ _, View.ld_unit_zero (by decide) _ _, View.ld_unit_zero (by decide) _ _,
    View.ld_unit_zero (by decide) _ _, View.ld_unit_zero (by decide) _ _, View.ld_unit_zero (by decide) _ _, rfl, rfl, rfl, rfl,
    View.ld_unit_zero (by decide) _ _⟩

theorem yA_raw (hc : cond0_0 i) :
    (kernelRun0_A (F := Ideal) c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 arg21 harg21 arg22 harg22 arg23 harg23 arg24 harg24 hc x0 x1 x2 x3 x4 x5 x6 x7 x8 x9 x10 x11 x12
      x13 x14 x15 x16 x17).1
      = [⟨Rect.unit (s := S1x512x1024) ![0, 0, 0] S1x512x1024.size inb_S1x512x1024_S1x512x1024_0_0_0,
        yTile arg23 (rawIns arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      x0 x1 x2 x3 x4 x5 x6 x7 x8 x9 x10 x11 x12 x13 x14 x15 x16 x17) (cinA arg24) initA arg22⟩] := by
  sl_kernel_rfl

theorem gA_raw (hc : cond0_0 i) :
    (kernelRun0_A (F := Ideal) c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 arg21 harg21 arg22 harg22 arg23 harg23 arg24 harg24 hc x0 x1 x2 x3 x4 x5 x6 x7 x8 x9 x10 x11 x12
      x13 x14 x15 x16 x17).2.1
      = [⟨Rect.unit (s := S1x8x2816) ![0, 0, 0] S1x8x2816.size inb_S1x8x2816_S1x8x2816_0_0_0,
        gTile arg23 (rawIns arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      x0 x1 x2 x3 x4 x5 x6 x7 x8 x9 x10 x11 x12 x13 x14 x15 x16 x17) (cinA arg24) initA arg24⟩] := by
  sl_kernel_rfl

theorem cA_raw (hc : cond0_0 i) :
    (kernelRun0_A (F := Ideal) c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 arg21 harg21 arg22 harg22 arg23 harg23 arg24 harg24 hc x0 x1 x2 x3 x4 x5 x6 x7 x8 x9 x10 x11 x12
      x13 x14 x15 x16 x17).2.2.1
      = (gc arg23 (rawIns arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      x0 x1 x2 x3 x4 x5 x6 x7 x8 x9 x10 x11 x12 x13 x14 x15 x16 x17) (cinA arg24) initA 11 (le_refl 11)).2 := by
  sl_kernel_rfl

theorem yB_raw (hc : ¬cond0_0 i) (xs2 : Vec Ideal S8x2816 .f32) :
    (kernelRun0_B (F := Ideal) c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 arg21 harg21 arg22 harg22 arg23 harg23 arg24 harg24 hc x0 x1 x2 x3 x4 x5 x6 x7 x8 x9 x10 x11 x12
      x13 x14 x15 x16 x17 xs2).1
      = [⟨Rect.unit (s := S1x512x1024) ![0, 0, 0] S1x512x1024.size inb_S1x512x1024_S1x512x1024_0_0_0,
        yTile arg23 (rawIns arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      x0 x1 x2 x3 x4 x5 x6 x7 x8 x9 x10 x11 x12 x13 x14 x15 x16 x17) (cinB (arg24.view.read (Elt Ideal) (harg24.unread xs2))) [] arg22⟩] := by
  sl_kernel_rfl

theorem gB_raw (hc : ¬cond0_0 i) (xs2 : Vec Ideal S8x2816 .f32) :
    (kernelRun0_B (F := Ideal) c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 arg21 harg21 arg22 harg22 arg23 harg23 arg24 harg24 hc x0 x1 x2 x3 x4 x5 x6 x7 x8 x9 x10 x11 x12
      x13 x14 x15 x16 x17 xs2).2.1
      = [⟨Rect.unit (s := S1x8x2816) ![0, 0, 0] S1x8x2816.size inb_S1x8x2816_S1x8x2816_0_0_0,
        gTile arg23 (rawIns arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      x0 x1 x2 x3 x4 x5 x6 x7 x8 x9 x10 x11 x12 x13 x14 x15 x16 x17) (cinB (arg24.view.read (Elt Ideal) (harg24.unread xs2))) [] arg24⟩] := by
  sl_kernel_rfl

theorem cB_raw (hc : ¬cond0_0 i) (xs2 : Vec Ideal S8x2816 .f32) :
    (kernelRun0_B (F := Ideal) c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 arg21 harg21 arg22 harg22 arg23 harg23 arg24 harg24 hc x0 x1 x2 x3 x4 x5 x6 x7 x8 x9 x10 x11 x12
      x13 x14 x15 x16 x17 xs2).2.2.1
      = (gc arg23 (rawIns arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      x0 x1 x2 x3 x4 x5 x6 x7 x8 x9 x10 x11 x12 x13 x14 x15 x16 x17) (cinB (arg24.view.read (Elt Ideal) (harg24.unread xs2))) [] 11 (le_refl 11)).2 := by
  sl_kernel_rfl

end Cert.Dense
-- ==== Proof.DenseSpec.lean ====
/-
  The layer's dense half on rows of extended reals: mixing the two mixers' outputs under their gates, the residual with
  its modulation, the normalised and modulated input of the feed-forward part, its gate with the causal convolution over
  three rows, and the final norm. The kernel and the reference are both read as these functions.
-/
module

public import Idealize.ShloMosaic.PureOps.Ideal

@[expose] public section

noncomputable section

namespace Cert.DenseSpec

open Idealize.ShloMosaic

/-- One token's inputs. -/
structure Row where
  og : Fin 1024 → EReal
  ob : Fin 1024 → EReal
  ga : Fin 1024 → EReal
  gb : Fin 1024 → EReal
  x : Fin 1024 → EReal

/-- A sequence's modulation and the layer's weights. -/
structure Par where
  gt1 : Fin 1024 → EReal
  sh2 : Fin 1024 → EReal
  sc2 : Fin 1024 → EReal
  gt2 : Fin 1024 → EReal
  n2 : Fin 1024 → EReal
  fn : Fin 1024 → EReal
  wa : Fin 1024 → Fin 1024 → EReal
  wb : Fin 1024 → Fin 1024 → EReal
  wo : Fin 1024 → Fin 1024 → EReal
  wg : Fin 1024 → Fin 2816 → EReal
  wu : Fin 1024 → Fin 2816 → EReal
  cw : Fin 3 → Fin 2816 → EReal
  cb : Fin 2816 → EReal
  wd : Fin 2816 → Fin 1024 → EReal

/-- Rows agree when they do field by field. -/
theorem row_eq {a b : Row} (h0 : ∀ e, a.og e = b.og e) (h1 : ∀ e, a.ob e = b.ob e) (h2 : ∀ e, a.ga e = b.ga e)
    (h3 : ∀ e, a.gb e = b.gb e) (h4 : ∀ e, a.x e = b.x e) : a = b := by
  cases a
  cases b
  rw [Row.mk.injEq]
  exact ⟨funext h0, funext h1, funext h2, funext h3, funext h4⟩

/-- So do parameters. -/
theorem par_eq {a b : Par} (h0 : ∀ e, a.gt1 e = b.gt1 e) (h1 : ∀ e, a.sh2 e = b.sh2 e) (h2 : ∀ e, a.sc2 e = b.sc2 e)
    (h3 : ∀ e, a.gt2 e = b.gt2 e) (h4 : ∀ e, a.n2 e = b.n2 e) (h5 : ∀ e, a.fn e = b.fn e) (h6 : ∀ i e, a.wa i e = b.wa i e)
    (h7 : ∀ i e, a.wb i e = b.wb i e) (h8 : ∀ i e, a.wo i e = b.wo i e) (h9 : ∀ i e, a.wg i e = b.wg i e)
    (h10 : ∀ i e, a.wu i e = b.wu i e) (h11 : ∀ i e, a.cw i e = b.cw i e) (h12 : ∀ e, a.cb e = b.cb e)
    (h13 : ∀ i e, a.wd i e = b.wd i e) : a = b := by
  cases a
  cases b
  rw [Par.mk.injEq]
  exact ⟨funext h0, funext h1, funext h2, funext h3, funext h4, funext h5, funext fun i => funext (h6 i), funext fun i => funext (h7 i),
    funext fun i => funext (h8 i), funext fun i => funext (h9 i), funext fun i => funext (h10 i), funext fun i => funext (h11 i),
    funext h12, funext fun i => funext (h13 i)⟩

variable (P : Par) (r : Row)

/-- The mixers' outputs, projected and gated. -/
def mix (l : Fin 1024) : EReal :=
  Ideal.logistic (r.ga l) * ∑ c, r.og c * P.wa c l + Ideal.logistic (r.gb l) * ∑ c, r.ob c * P.wb c l

/-- The stream after the mixers. -/
def x1 (e : Fin 1024) : EReal := r.x e + P.gt1 e * ∑ l, mix P r l * P.wo l e

/-- The root mean square's reciprocal times the row. -/
def rms (x : Fin 1024 → EReal) (e : Fin 1024) : EReal :=
  x e * Ideal.rsqrt (Ideal.div (∑ l, x l * x l) (Ideal.ofBits .f32 0x44800000#32) + Ideal.ofBits .f32 0x358637BD#32)

/-- The feed-forward part's input. -/
def h2 (e : Fin 1024) : EReal := rms (x1 P r) e * P.n2 e * (1 + P.sc2 e) + P.sh2 e

/-- The gate of the feed-forward part. -/
def gate (f : Fin 2816) : EReal := ∑ l, h2 P r l * P.wg l f

/-- Its up projection. -/
def up (f : Fin 2816) : EReal := ∑ l, h2 P r l * P.wu l f

/-- The convolution over the gates two rows back, one row back and here. -/
def conv (g2 g1 g0 : Fin 2816 → EReal) (f : Fin 2816) : EReal :=
  P.cw 0 f * g2 f + P.cw 1 f * g1 f + P.cw 2 f * g0 f + P.cb f

/-- The activation. -/
def act (g2 g1 : Fin 2816 → EReal) (f : Fin 2816) : EReal :=
  conv P g2 g1 (gate P r) f * Ideal.logistic (conv P g2 g1 (gate P r) f) * up P r f

/-- The stream after the feed-forward part. -/
def x2 (g2 g1 : Fin 2816 → EReal) (e : Fin 1024) : EReal :=
  x1 P r e + P.gt2 e * ∑ f, act P r g2 g1 f * P.wd f e

/-- The layer's output row. -/
def y (g2 g1 : Fin 2816 → EReal) (e : Fin 1024) : EReal := rms (x2 P r g2 g1) e * P.fn e

end Cert.DenseSpec
-- ==== Proof.DenseRead.lean ====
/-
  The dense kernel's stores read back. The shift buffer holds a chunk's carried rows above its gate, so its rows 6 and 7
  on are the gate two rows and one row back; its last rows go to the carry; and the activation's chunks fill its columns.
-/
module

public import proofs.«01_k».proof.Proof.DenseTile
public import proofs.«01_k».proof.Proof.DenseSpec
public import Idealize.ShloMosaic.Lib.Pipeline.ValueKit
public import Idealize.ShloMosaic.Lib.Pointwise

@[expose] public section

noncomputable section

namespace Cert.Dense

open Idealize.ShloMosaic Idealize.ShloMosaic.TcCoe Idealize.SL.Sem
open Cert.Kernel2Ideal Cert.Kernel2Ideal.Gen

/-- A sequence's modulation and the weights, from a point's blocks. -/
def par (I : Ins) : DenseSpec.Par where
  gt1 e := I.x4 (ix3 0 0 e)
  sh2 e := I.x5 (ix3 0 0 e)
  sc2 e := I.x6 (ix3 0 0 e)
  gt2 e := I.x7 (ix3 0 0 e)
  n2 e := I.x8 (ix2 0 e)
  fn e := I.x9 (ix2 0 e)
  wa c e := I.x10 (ix2 c e)
  wb c e := I.x11 (ix2 c e)
  wo c e := I.x12 (ix2 c e)
  wg c f := I.x13 (ix2 c f)
  wu c f := I.x14 (ix2 c f)
  cw j f := I.x15 (ix2 j f)
  cb f := I.x16 (ix2 0 f)
  wd f e := I.x17 (ix2 f e)

/-- A token's inputs, from a point's blocks. -/
def row (I : Ins) (i : Fin 512) : DenseSpec.Row where
  og c := I.x0 (ix3 0 i c)
  ob c := I.x1 (ix3 0 i c)
  ga l := I.x2 (ix3 0 i ⟨l.val, by omega⟩)
  gb l := I.x2 (ix3 0 i ⟨1024 + l.val, by omega⟩)
  x e := I.x3 (ix3 0 i e)

variable (I : Ins)

theorem merged_apply (i : Fin 512) (l : Fin 1024) : merged I (ix2 i l) = DenseSpec.mix (par I) (row I i) l := by
  unfold merged
  pointwise [k0_pay6]
  unfold DenseSpec.mix
  have ha : ∀ (p q), (ix3 0 ⟨gaRect.off 1 + gaRect.stride 1 * i.val, p⟩ ⟨gaRect.off 2 + gaRect.stride 2 * l.val, q⟩ : S1x512x2048.Idx)
      = ix3 0 i ⟨l.val, by omega⟩ := fun p q => congrArg₂ (ix3 0) (Fin.ext (by show 0 + 1 * i.val = i.val; omega))
        (Fin.ext (by show 0 + 1 * l.val = l.val; omega))
  have hb : ∀ (p q), (ix3 0 ⟨gbRect.off 1 + gbRect.stride 1 * i.val, p⟩ ⟨gbRect.off 2 + gbRect.stride 2 * l.val, q⟩ : S1x512x2048.Idx)
      = ix3 0 i ⟨1024 + l.val, by omega⟩ := fun p q => congrArg₂ (ix3 0) (Fin.ext (by show 0 + 1 * i.val = i.val; omega))
        (Fin.ext (by show 1024 + 1 * l.val = 1024 + l.val; omega))
  rw [ha, hb]
  rfl

theorem x1t_apply (i : Fin 512) (e : Fin 1024) : x1t I (ix2 i e) = DenseSpec.x1 (par I) (row I i) e := by
  unfold x1t
  pointwise [k0_pay7, k0_pay3, k0_pay4, k0_pay5]
  simp only [merged_apply]
  rfl

theorem h2t_apply (i : Fin 512) (e : Fin 1024) : h2t I (ix2 i e) = DenseSpec.h2 (par I) (row I i) e := by
  have h : ∀ e, k0_pay7 (F := Ideal) (k0_pay3 (F := Ideal) I.x3) (k0_pay4 (F := Ideal) I.x4) (k0_pay5 (F := Ideal) I.x12) (merged I) (ix2 i e)
      = DenseSpec.x1 (par I) (row I i) e := x1t_apply I i
  unfold h2t
  pointwise [k0_pay8]
  simp only [h]
  rfl

/-- Column `f` of chunk `k`. -/
def col (k : Nat) (h : k < 11) (f : Fin 256) : Fin 2816 := ⟨k * 256 + f.val, by omega⟩

theorem gate_apply (k : Nat) (h : k < 11) (i : Fin 512) (f : Fin 256) :
    gate I k h (ix2 i f) = DenseSpec.gate (par I) (row I i) (col k h f) := by
  unfold gate
  pointwise [k0_pay15]
  simp only [h2t_apply]
  refine Finset.sum_congr rfl fun l _ => ?_
  refine congrArg (DenseSpec.h2 (par I) (row I i) l * ·) ?_
  exact congrArg I.x13 (congrArg₂ ix2 (Fin.ext (by show 0 + 1 * l.val = l.val; omega))
    (Fin.ext (by show k * 256 + 1 * f.val = k * 256 + f.val; omega)))

theorem up_apply (k : Nat) (h : k < 11) (i : Fin 512) (f : Fin 256) :
    up I k h (ix2 i f) = DenseSpec.up (par I) (row I i) (col k h f) := by
  unfold up
  pointwise [k0_pay15]
  simp only [h2t_apply]
  refine Finset.sum_congr rfl fun l _ => ?_
  refine congrArg (DenseSpec.h2 (par I) (row I i) l * ·) ?_
  exact congrArg I.x14 (congrArg₂ ix2 (Fin.ext (by show 0 + 1 * l.val = l.val; omega))
    (Fin.ext (by show k * 256 + 1 * f.val = k * 256 + f.val; omega)))

/-- A chunk of the activation, from its operands. -/
theorem chunk_apply (g u g2 g1 : FVec Ideal S512x256 .f32) (w0 w1 w2 cb : Vec Ideal S1x256 .f32) (i : Fin 512) (f : Fin 256) :
    k0_pay80 (F := Ideal) g u g2 g1 w0 w1 w2 cb (ix2 i f)
      = (w0 (ix2 0 f) * g2 (ix2 i f) + w1 (ix2 0 f) * g1 (ix2 i f) + w2 (ix2 0 f) * g (ix2 i f) + cb (ix2 0 f))
        * Ideal.logistic (w0 (ix2 0 f) * g2 (ix2 i f) + w1 (ix2 0 f) * g1 (ix2 i f) + w2 (ix2 0 f) * g (ix2 i f) + cb (ix2 0 f))
        * u (ix2 i f) := by
  pointwise [k0_pay80]

/-- The same with every operand known at that place. -/
theorem chunk_act (g u g2 g1 : FVec Ideal S512x256 .f32) (w0 w1 w2 cb : Vec Ideal S1x256 .f32) (i : Fin 512) (f : Fin 256)
    (P : DenseSpec.Par) (r : DenseSpec.Row) (b2 b1 : Fin 2816 → EReal) (q : Fin 2816)
    (hg : g (ix2 i f) = DenseSpec.gate P r q) (hu : u (ix2 i f) = DenseSpec.up P r q) (h2 : g2 (ix2 i f) = b2 q)
    (h1 : g1 (ix2 i f) = b1 q) (hw0 : w0 (ix2 0 f) = P.cw 0 q) (hw1 : w1 (ix2 0 f) = P.cw 1 q) (hw2 : w2 (ix2 0 f) = P.cw 2 q)
    (hcb : cb (ix2 0 f) = P.cb q) :
    k0_pay80 (F := Ideal) g u g2 g1 w0 w1 w2 cb (ix2 i f) = DenseSpec.act P r b2 b1 q := by
  rw [chunk_apply, hg, hu, h2, h1, hw0, hw1, hw2, hcb]
  rfl

/-- Off the last store, what the earlier ones leave. -/
theorem canon_off {s : Shape} {e : EltTy} (r : Rect s) (w : r.shape.Idx → Elt Ideal e) (L : List (View.Piece (Elt Ideal) s e)) (y : s.Idx)
    (h : y ∉ r.set) : View.canon (⟨r, w⟩ :: L) y = View.canon L y := View.canon_cons_of_not_mem _ _ h

theorem not_mem_g (n : Fin 520) (f : Fin 256) (hn : n.val < 8) :
    (ix2 n f : S520x256.Idx) ∉ (gRect 8 (le_refl 8)).set := fun hm =>
  absurd (show 8 ≤ n.val from (Rect.mem_set_unit.mp hm 0).1) (by omega)

theorem not_mem_c (k : Nat) (h : k < 11) (r : Fin 8) (f : Fin 2816) (hf : ¬(k * 256 ≤ f.val ∧ f.val < k * 256 + 256)) :
    (ix2 r f : S8x2816.Idx) ∉ (cRect k h).set := fun hm => hf (Rect.mem_set_unit.mp hm 1)

theorem not_mem_a (k : Nat) (h : k < 11) (i : Fin 512) (f : Fin 2816) (hf : ¬ k * 256 ≤ f.val) :
    (ix2 i f : S512x2816.Idx) ∉ (aRect k h).set := fun hm => hf (Rect.mem_set_unit.mp hm 1).1

/-- The shift buffer's first rows are the carried ones. -/
theorem head_apply (k : Nat) (h : k < 11) (c : Vec Ideal S8x256 .f32) (L : GStores) (n : Fin 520) (hn : n.val < 8) (f : Fin 256) :
    View.canon (putG I k h c L) (ix2 n f) = c (ix2 ⟨n.val, hn⟩ f) := by
  unfold putG
  refine (canon_off (gRect 8 (le_refl 8)) _ _ _ (not_mem_g n f hn)).trans ?_
  have he : (ix2 n f : S520x256.Idx) = headRect.emb (ix2 ⟨n.val, hn⟩ f) := by
    funext a
    fin_cases a
    · exact Fin.ext (by show n.val = 0 + 1 * n.val; omega)
    · exact Fin.ext (by show f.val = 0 + 1 * f.val; omega)
  refine (congrArg _ he).trans ((View.canon_cons_emb headRect _ _ _).trans ?_)
  pointwise [k0_pay13]

/-- The rows after them are the gate's. -/
theorem body_apply (k : Nat) (h : k < 11) (c : Vec Ideal S8x256 .f32) (L : GStores) (n : Fin 520) (hn : ¬ n.val < 8) (f : Fin 256) :
    View.canon (putG I k h c L) (ix2 n f) = DenseSpec.gate (par I) (row I ⟨n.val - 8, by omega⟩) (col k h f) := by
  unfold putG
  have he : (ix2 n f : S520x256.Idx) = (gRect 8 (le_refl 8)).emb (ix2 ⟨n.val - 8, by omega⟩ f) := by
    funext a
    fin_cases a
    · exact Fin.ext (by show n.val = 8 + 1 * (n.val - 8); omega)
    · exact Fin.ext (by show f.val = 0 + 1 * f.val; omega)
  refine (congrArg _ he).trans ((View.canon_cons_emb (gRect 8 (le_refl 8)) _ _ _).trans ?_)
  pointwise [k0_pay12]
  rw [gate_apply]

/-- The gates `j` rows before row `i` of a tile, over the carried rows `cv` before its first. -/
def back (cv : Vec Ideal S8x2816 .f32) (j : Nat) (i : Fin 512) (f : Fin 2816) : EReal :=
  if h : i.val < j then (if h8 : j ≤ 8 then cv (ix2 ⟨8 + i.val - j, by omega⟩ f) else 0)
  else DenseSpec.gate (par I) (row I ⟨i.val - j, by omega⟩) f

variable (vg : Memref sig .tc .vmem S520x256 .f32)

/-- Rows `8 - j` on of the shift buffer: the gates `j` rows back. -/
theorem shift_apply (k : Nat) (h : k < 11) (c : Vec Ideal S8x256 .f32) (cv : Vec Ideal S8x2816 .f32)
    (hc : ∀ r f, c (ix2 r f) = cv (ix2 r (col k h f))) (L : GStores) (j : Nat) (hj : 8 - j ≤ 8) (hj8 : j ≤ 8) (i : Fin 512) (f : Fin 256) :
    vg.view.readCov (putG I k h c L) (gRect (8 - j) hj).toLoadRect (ix2 i f) = back I cv j i (col k h f) := by
  rw [View.readCov_eq_canon']
  have he : (gRect (8 - j) hj).toLoadRect.idx (ix2 i f) = (ix2 ⟨8 - j + i.val, by omega⟩ f : S520x256.Idx) := by
    funext a
    fin_cases a
    · exact Fin.ext (by show 8 - j + 1 * i.val = 8 - j + i.val; omega)
    · exact Fin.ext (by show 0 + 1 * f.val = f.val; omega)
  show View.canon (putG I k h c L) _ = _
  rw [he]
  unfold back
  by_cases hi : i.val < j
  · rw [head_apply I k h c L _ (by show 8 - j + i.val < 8; omega), hc, dif_pos hi, dif_pos hj8]
    exact congrArg cv (congrArg (ix2 · _) (Fin.ext (by show 8 - j + i.val = 8 + i.val - j; omega)))
  · rw [body_apply I k h c L _ (by show ¬ 8 - j + i.val < 8; omega), dif_neg hi]
    exact congrArg (fun n => DenseSpec.gate (par I) (row I n) _) (Fin.ext (by show 8 - j + i.val - 8 = i.val - j; omega))

/-- The shift buffer's last rows: the gate's last. -/
theorem tail_apply (k : Nat) (h : k < 11) (c : Vec Ideal S8x256 .f32) (L : GStores) (r : Fin 8) (f : Fin 256) :
    vg.view.readCov (putG I k h c L) tailRect.toLoadRect (ix2 r f)
      = DenseSpec.gate (par I) (row I ⟨504 + r.val, by omega⟩) (col k h f) := by
  rw [View.readCov_eq_canon']
  have he : tailRect.toLoadRect.idx (ix2 r f) = (ix2 ⟨512 + r.val, by omega⟩ f : S520x256.Idx) := by
    funext a
    fin_cases a
    · exact Fin.ext (by show 512 + 1 * r.val = 512 + r.val; omega)
    · exact Fin.ext (by show 0 + 1 * f.val = f.val; omega)
  show View.canon (putG I k h c L) _ = _
  rw [he, body_apply I k h c L _ (by show ¬ 512 + r.val < 8; omega)]
  exact congrArg (fun n => DenseSpec.gate (par I) (row I n) _) (Fin.ext (by show 512 + r.val - 8 = 504 + r.val; omega))

variable (cin : (k : Nat) → k < 11 → CStores → Vec Ideal S8x256 .f32) (init : CStores)

/-- The carry after `n` turns: the chunks done hold the gate's last rows, the others what they held. -/
theorem carry_apply (n : Nat) (h : n ≤ 11) (r : Fin 8) (f : Fin 2816) :
    View.canon (gc vg I cin init n h).2 (ix2 r f)
      = if f.val < n * 256 then DenseSpec.gate (par I) (row I ⟨504 + r.val, by omega⟩) f else View.canon init (ix2 r f) := by
  induction n with
  | zero => rw [if_neg (by omega)]; rfl
  | succ k ih =>
    have hk : k < 11 := h
    show View.canon (putC vg k hk (putG I k hk _ _) _) (ix2 r f) = _
    unfold putC
    by_cases hf : k * 256 ≤ f.val ∧ f.val < (k + 1) * 256
    · have he : (ix2 r f : S8x2816.Idx) = (cRect k hk).emb (ix2 r ⟨f.val - k * 256, by omega⟩) := by
        funext a
        fin_cases a
        · exact Fin.ext (by show r.val = 0 + 1 * r.val; omega)
        · exact Fin.ext (by show f.val = k * 256 + 1 * (f.val - k * 256); omega)
      rw [if_pos hf.2]
      refine (congrArg _ he).trans ((View.canon_cons_emb (cRect k hk) _ _ _).trans ?_)
      pointwise [k0_pay13]
      rw [tail_apply]
      exact congrArg (DenseSpec.gate (par I) _) (Fin.ext (by show k * 256 + (f.val - k * 256) = f.val; omega))
    · refine (canon_off (cRect k hk) _ _ _ (not_mem_c k hk r f (by omega))).trans ((ih (Nat.le_of_lt h)).trans ?_)
      by_cases h1 : f.val < k * 256
      · rw [if_pos h1, if_pos (by omega)]
      · rw [if_neg h1, if_neg (by omega)]

/-- What a turn reads of the carry, in either case: the carried rows' own columns. -/
def Carried (cv : Vec Ideal S8x2816 .f32) : Prop :=
  ∀ (k : Nat) (h : k < 11) (r : Fin 8) (f : Fin 256),
    cin k h (gc vg I cin init k (Nat.le_of_lt h)).2 (ix2 r f) = cv (ix2 r (col k h f))

variable {cin init} {cv : Vec Ideal S8x2816 .f32} (hcv : Carried I vg cin init cv)
include hcv

/-- The activation after `n` turns, at a column done. -/
theorem acts_apply (n : Nat) (h : n ≤ 11) (i : Fin 512) (f : Fin 2816) (hf : f.val < n * 256) :
    View.canon (acts vg I cin init n h) (ix2 i f)
      = DenseSpec.act (par I) (row I i) (back I cv 2 i) (back I cv 1 i) f := by
  induction n with
  | zero => omega
  | succ k ih =>
    have hk : k < 11 := h
    show View.canon (putA vg I k hk (putG I k hk _ _) _) (ix2 i f) = _
    unfold putA
    by_cases hf' : k * 256 ≤ f.val
    · have he : (ix2 i f : S512x2816.Idx) = (aRect k hk).emb (ix2 i ⟨f.val - k * 256, by omega⟩) := by
        funext a
        fin_cases a
        · exact Fin.ext (by show i.val = 0 + 1 * i.val; omega)
        · exact Fin.ext (by show f.val = k * 256 + 1 * (f.val - k * 256); omega)
      have hcol : col k hk ⟨f.val - k * 256, by omega⟩ = f :=
        Fin.ext (by show k * 256 + (f.val - k * 256) = f.val; omega)
      have htap : ∀ (j : Nat) (hj : j < 3), View.ld I.x15 (tapRect j k hj hk) (ix2 0 ⟨f.val - k * 256, by omega⟩) = (par I).cw ⟨j, hj⟩ f :=
        fun j hj => congrArg I.x15 (by
          funext a
          fin_cases a
          · exact Fin.ext (by show j + 1 * 0 = j; omega)
          · exact Fin.ext (by show k * 256 + 1 * (f.val - k * 256) = f.val; omega))
      have hbias : View.ld I.x16 (biasRect k hk) (ix2 0 ⟨f.val - k * 256, by omega⟩) = (par I).cb f :=
        congrArg I.x16 (by
          funext a
          fin_cases a
          · rfl
          · exact Fin.ext (by show k * 256 + 1 * (f.val - k * 256) = f.val; omega))
      refine (congrArg _ he).trans ((View.canon_cons_emb (aRect k hk) _ _ _).trans ?_)
      exact chunk_act _ _ _ _ _ _ _ _ i _ (par I) (row I i) _ _ f ((gate_apply I k hk i _).trans (by rw [hcol]))
        ((up_apply I k hk i _).trans (by rw [hcol]))
        ((shift_apply I vg k hk _ cv (hcv k hk) _ 2 (by omega) (by omega) i _).trans (by rw [hcol]))
        ((shift_apply I vg k hk _ cv (hcv k hk) _ 1 (by omega) (by omega) i _).trans (by rw [hcol]))
        (htap 0 _) (htap 1 _) (htap 2 _) hbias
    · exact (canon_off (aRect k hk) _ _ _ (not_mem_a k hk i f hf')).trans (ih (Nat.le_of_lt h) (by omega))

omit hcv

/-- Reading a whole scratch back is what its stores leave. -/
theorem whole_read {s : Shape} {e : EltTy} (v : View sig .tc .vmem s e) (L : List (View.Piece (Elt Ideal) s e))
    {off : Fin s.rank → Nat} (h : off = fun _ => 0) (inb) :
    v.readCov L (Rect.unit off s.size inb).toLoadRect = View.canon L := by
  subst h
  funext j
  rw [View.readCov_eq_canon']
  refine congrArg (View.canon L) (funext fun a => Fin.ext ?_)
  show 0 + 1 * (j a).val = (j a).val
  omega

include hcv

variable (va : Memref sig .tc .vmem S512x2816 .bf16) (vc : Memref sig .tc .vmem S8x2816 .f32)

/-- The output tile, row by row. -/
theorem yTile_apply (i : Fin 512) (e : Fin 1024) :
    yTile vg I cin init va (ix3 0 i e) = DenseSpec.y (par I) (row I i) (back I cv 2 i) (back I cv 1 i) e := by
  unfold yTile
  rw [whole_read _ _ (by decide)]
  pointwise [k0_pay1]
  simp only [x1t_apply]
  simp only [acts_apply I vg hcv 11 (le_refl 11) i _ (Fin.isLt _)]
  rfl

omit hcv

/-- The carried rows a point writes: the gate's last. -/
theorem gTile_apply (r : Fin 8) (f : Fin 2816) :
    gTile vg I cin init vc (ix3 0 r f) = DenseSpec.gate (par I) (row I ⟨504 + r.val, by omega⟩) f := by
  unfold gTile
  rw [whole_read _ _ (by decide)]
  pointwise [k0_pay81]
  rw [carry_apply, if_pos (by omega)]

/-- What the carry holds after a point. -/
theorem carry_all (r : Fin 8) (f : Fin 2816) :
    View.canon (gc vg I cin init 11 (le_refl 11)).2 (ix2 r f) = DenseSpec.gate (par I) (row I ⟨504 + r.val, by omega⟩) f := by
  rw [carry_apply, if_pos (by omega)]

theorem carriedB (s : Vec Ideal S8x2816 .f32) (init : CStores) : Carried I vg (cinB s) init s := fun k h r f =>
  congrArg s (by
    funext a
    fin_cases a
    · exact Fin.ext (by show 0 + 1 * r.val = r.val; omega)
    · exact Fin.ext (by show k * 256 + 1 * f.val = k * 256 + f.val; omega))

theorem carriedA : Carried I vg (cinA vc) initA (fun _ => 0) := fun k h r f => by
  unfold cinA
  rw [View.readCov_eq_canon']
  have he : (cRect k h).toLoadRect.idx (ix2 r f) = (ix2 r (col k h f) : S8x2816.Idx) := by
    funext a
    fin_cases a
    · exact Fin.ext (by show 0 + 1 * r.val = r.val; omega)
    · exact Fin.ext (by show k * 256 + 1 * f.val = k * 256 + f.val; omega)
  show View.canon (gc vg I (cinA vc) initA k (Nat.le_of_lt h)).2 _ = _
  rw [he, carry_apply, if_neg (by show ¬ k * 256 + f.val < k * 256; omega)]
  unfold initA
  rw [View.canon_unit_zero (by decide)]
  pointwise [k0_pay2]

end Cert.Dense
-- ==== Proof.DenseRef.lean ====
/-
  The reference's dense half read at an index: a token's row of it is the row function of `DenseSpec`, over the gates of
  the two rows before it, which are zero before the first.
-/
module

public import proofs.«01_k».proof.Proof.Gen.Reference2Ideal.Read
public import proofs.«01_k».proof.Proof.DenseSpec
public import Idealize.ShloMosaic.Lib.Pointwise

@[expose] public section

noncomputable section

namespace Cert.DenseRef

open Idealize.ShloMosaic Idealize.ShloMosaic.TcCoe Idealize.SL.Sem
open Cert.Reference2Ideal Cert.Reference2Ideal.Gen Cert.Reference2Ideal.Read Cert.DenseSpec

/-- The program's inputs. -/
structure Args where
  x0 : (⟨S8x2048x1024, .bf16⟩ : BufTy).Contents (Elt Ideal)
  x1 : (⟨S8x2048x1024, .bf16⟩ : BufTy).Contents (Elt Ideal)
  x2 : (⟨S8x2048x2048, .f32⟩ : BufTy).Contents (Elt Ideal)
  x3 : (⟨S8x2048x1024, .f32⟩ : BufTy).Contents (Elt Ideal)
  x4 : (⟨S8x1024, .f32⟩ : BufTy).Contents (Elt Ideal)
  x5 : (⟨S8x1024, .f32⟩ : BufTy).Contents (Elt Ideal)
  x6 : (⟨S8x1024, .f32⟩ : BufTy).Contents (Elt Ideal)
  x7 : (⟨S8x1024, .f32⟩ : BufTy).Contents (Elt Ideal)
  x8 : (⟨S1x1024, .f32⟩ : BufTy).Contents (Elt Ideal)
  x9 : (⟨S1024, .f32⟩ : BufTy).Contents (Elt Ideal)
  x10 : (⟨S1x1024x1024, .f32⟩ : BufTy).Contents (Elt Ideal)
  x11 : (⟨S1x1024x1024, .f32⟩ : BufTy).Contents (Elt Ideal)
  x12 : (⟨S1x1024x1024, .f32⟩ : BufTy).Contents (Elt Ideal)
  x13 : (⟨S1x1024x2816, .f32⟩ : BufTy).Contents (Elt Ideal)
  x14 : (⟨S1x1024x2816, .f32⟩ : BufTy).Contents (Elt Ideal)
  x15 : (⟨S1x3x2816, .f32⟩ : BufTy).Contents (Elt Ideal)
  x16 : (⟨S1x2816, .f32⟩ : BufTy).Contents (Elt Ideal)
  x17 : (⟨S1x2816x1024, .f32⟩ : BufTy).Contents (Elt Ideal)

variable (A : Args) (b : Fin 8) (R : Fin 2048)

/-- The modulation of a sequence and the layer's weights, from the program's inputs. -/
def par : Par where
  gt1 e := A.x4 (ix2 b e)
  sh2 e := A.x5 (ix2 b e)
  sc2 e := A.x6 (ix2 b e)
  gt2 e := A.x7 (ix2 b e)
  n2 e := A.x8 (ix2 0 e)
  fn e := A.x9 (ix1 e)
  wa c e := A.x10 (ix3 0 c e)
  wb c e := A.x11 (ix3 0 c e)
  wo c e := A.x12 (ix3 0 c e)
  wg c f := A.x13 (ix3 0 c f)
  wu c f := A.x14 (ix3 0 c f)
  cw j f := A.x15 (ix3 0 j f)
  cb f := A.x16 (ix2 0 f)
  wd f e := A.x17 (ix3 0 f e)

/-- A token's inputs, from the program's. -/
def row : Row where
  og c := A.x0 (ix3 b R c)
  ob c := A.x1 (ix3 b R c)
  ga l := A.x2 (ix3 b R ⟨l.val, by omega⟩)
  gb l := A.x2 (ix3 b R ⟨1024 + l.val, by omega⟩)
  x e := A.x3 (ix3 b R e)

/-- The gates `j` rows before row `R`: zero before the first row. -/
def back (j : Nat) (f : Fin 2816) : EReal :=
  if h : j ≤ R.val then gate (par A b) (row A b ⟨R.val - j, by omega⟩) f else 0

theorem mix_apply (l : Fin 1024) : val_main_v26 (F := Ideal) A.x0 A.x1 A.x2 A.x10 A.x11 (ix3 b R l) = mix (par A b) (row A b R) l := by
  pointwise [val_main_v26, val_main_v25, val_main_v24, val_main_v23, val_main_cst_2, val_main_v22, val_main_v21, val_main_cst_1, val_main_v20, val_main_v19, val_main_v18, val_main_v17, val_main_v16, val_main_cst_0, val_main_v15, val_main_v14, val_main_cst, val_main_v13, val_main_v12, val_main_v11, val_main_v10, val_main_v9, val_main_v8, val_main_v7, val_main_v6, val_main_v5, val_main_v4]
  rfl

theorem x1_apply (e : Fin 1024) : val_main_v31 (F := Ideal) A.x0 A.x1 A.x2 A.x3 A.x4 A.x10 A.x11 A.x12 (ix3 b R e) = DenseSpec.x1 (par A b) (row A b R) e := by
  pointwise [val_main_v31, val_main_v30, val_main_v29, val_main_v28, val_main_v27, val_main_v0]
  simp only [mix_apply A b R]
  rfl

theorem h2_apply (e : Fin 1024) :
    val_main_v51 (F := Ideal) A.x0 A.x1 A.x2 A.x3 A.x4 A.x5 A.x6 A.x8 A.x10 A.x11 A.x12 (ix3 b R e) = h2 (par A b) (row A b R) e := by
  pointwise [val_main_v51, val_main_v50, val_main_v49, val_main_v48, val_main_v47, val_main_v46, val_main_cst_6, val_main_v45, val_main_v44, val_main_v43, val_main_v42, val_main_v41, val_main_v40, val_main_v39, val_main_v38, val_main_cst_5, val_main_v37, val_main_v36, val_main_cst_4, val_main_v35, val_main_v34, val_main_cst_3, val_main_v33, val_main_v32, val_main_v1, val_main_v2]
  simp only [x1_apply A b R]
  rfl

theorem gate_apply (f : Fin 2816) :
    val_main_v53 (F := Ideal) A.x0 A.x1 A.x2 A.x3 A.x4 A.x5 A.x6 A.x8 A.x10 A.x11 A.x12 A.x13 (ix3 b R f) = gate (par A b) (row A b R) f := by
  pointwise [val_main_v53, val_main_v52]
  simp only [h2_apply A b R]
  rfl

theorem up_apply (f : Fin 2816) :
    val_main_v55 (F := Ideal) A.x0 A.x1 A.x2 A.x3 A.x4 A.x5 A.x6 A.x8 A.x10 A.x11 A.x12 A.x14 (ix3 b R f) = up (par A b) (row A b R) f := by
  pointwise [val_main_v55, val_main_v54]
  simp only [h2_apply A b R]
  rfl

/-- The gates after two zero rows, which is what the convolution walks. -/
theorem ext_apply (n : Fin 2050) (f : Fin 2816) :
    val_main_v57 (F := Ideal) A.x0 A.x1 A.x2 A.x3 A.x4 A.x5 A.x6 A.x8 A.x10 A.x11 A.x12 A.x13 (ix3 b n f)
      = if h : n.val < 2 then 0 else gate (par A b) (row A b ⟨n.val - 2, by omega⟩) f := by
  pointwise [val_main_v57, val_main_v56, val_main_cst_7]
  simp only [gate_apply A b]
  try rfl

theorem ext_back (j : Nat) (hj : j ≤ 2) (n : Fin 2050) (hn : n.val + j = R.val + 2) (f : Fin 2816) :
    val_main_v57 (F := Ideal) A.x0 A.x1 A.x2 A.x3 A.x4 A.x5 A.x6 A.x8 A.x10 A.x11 A.x12 A.x13 (ix3 b n f) = back A b R j f := by
  rw [ext_apply]
  unfold back
  by_cases h : j ≤ R.val
  · rw [dif_pos h, dif_neg (by omega)]
    refine congrArg (fun n => gate (par A b) (row A b n) f) (Fin.ext ?_)
    show n.val - 2 = R.val - j
    omega
  · rw [dif_neg h, dif_pos (by omega)]

theorem back_zero (f : Fin 2816) : back A b R 0 f = gate (par A b) (row A b R) f := by
  unfold back
  rw [dif_pos (Nat.zero_le _)]
  rfl

theorem conv_apply (f : Fin 2816) :
    val_main_v84 (F := Ideal) A.x0 A.x1 A.x2 A.x3 A.x4 A.x5 A.x6 A.x8 A.x10 A.x11 A.x12 A.x13 A.x15 A.x16 (ix3 b R f)
      = conv (par A b) (back A b R 2) (back A b R 1) (gate (par A b) (row A b R)) f := by
  pointwise [val_main_v84, val_main_v83, val_main_v82, val_main_v81, val_main_v80, val_main_v79, val_main_v78, val_main_v77,
    val_main_v76, val_main_v75, val_main_v74, val_main_v73, val_main_v72, val_main_v71, val_main_v70, val_main_v69,
    val_main_v68, val_main_v67, val_main_v66, val_main_v65, val_main_cst_8, val_main_v64, val_main_v63, val_main_v62,
    val_main_v61, val_main_v60, val_main_v59, val_main_v58]
  rw [ext_back A b R 2 (by omega) _ (by simp), ext_back A b R 1 (by omega) _ (by simp; omega),
    ext_back A b R 0 (by omega) _ (by simp; omega), back_zero]
  unfold conv
  rfl

theorem act_apply (f : Fin 2816) :
    val_main_v86 (F := Ideal) A.x0 A.x1 A.x2 A.x3 A.x4 A.x5 A.x6 A.x8 A.x10 A.x11 A.x12 A.x13 A.x14 A.x15 A.x16 (ix3 b R f)
      = act (par A b) (row A b R) (back A b R 2) (back A b R 1) f := by
  pointwise [val_main_v86, val_main_v85, val_main_call0_v5, val_main_call0_v4, val_main_call0_cst_0, val_main_call0_v3,
    val_main_call0_v2, val_main_call0_cst, val_main_call0_v1, val_main_call0_v0]
  rw [conv_apply, up_apply]
  rfl

theorem x2_apply (e : Fin 1024) :
    val_main_v91 (F := Ideal) A.x0 A.x1 A.x2 A.x3 A.x4 A.x5 A.x6 A.x7 A.x8 A.x10 A.x11 A.x12 A.x13 A.x14 A.x15 A.x16 A.x17 (ix3 b R e)
      = DenseSpec.x2 (par A b) (row A b R) (back A b R 2) (back A b R 1) e := by
  pointwise [val_main_v91, val_main_v90, val_main_v89, val_main_v88, val_main_v87, val_main_v3]
  simp only [x1_apply A b R, act_apply A b R]
  rfl

/-- The reference's output row. -/
theorem y_apply (e : Fin 1024) :
    val_main_v104 (F := Ideal) A.x0 A.x1 A.x2 A.x3 A.x4 A.x5 A.x6 A.x7 A.x8 A.x9 A.x10 A.x11 A.x12 A.x13 A.x14 A.x15 A.x16 A.x17 (ix3 b R e)
      = y (par A b) (row A b R) (back A b R 2) (back A b R 1) e := by
  pointwise [val_main_v104, val_main_v103, val_main_v102, val_main_v101, val_main_v100, val_main_v99, val_main_v98,
    val_main_v97, val_main_cst_11, val_main_v96, val_main_v95, val_main_cst_10, val_main_v94, val_main_v93, val_main_cst_9,
    val_main_v92]
  simp only [x2_apply A b R]
  rfl

/-- The reference's last gates. -/
theorem g_apply (r : Fin 8) (f : Fin 2816) :
    val_main_v105 (F := Ideal) A.x0 A.x1 A.x2 A.x3 A.x4 A.x5 A.x6 A.x8 A.x10 A.x11 A.x12 A.x13 (ix3 b r f) = gate (par A b) (row A b ⟨2040 + r.val, by omega⟩) f := by
  pointwise [val_main_v105]
  rw [ext_apply, dif_neg (by show ¬ 2042 + r.val < 2; omega)]
  refine congrArg (fun n => gate (par A b) (row A b n) f) (Fin.ext ?_)
  show 2042 + r.val - 2 = 2040 + r.val
  omega

end Cert.DenseRef
-- ==== Proof.DenseArgs.lean ====
/-
  The blocks of the dense kernel's points as rows of the program's arguments.
-/
module

public import proofs.«01_k».proof.Proof.DenseRead
public import proofs.«01_k».proof.Proof.DenseRef

@[expose] public section

noncomputable section

namespace Cert.Dense

open Idealize.ShloMosaic Idealize.ShloMosaic.TcCoe Idealize.SL.Sem
open Cert.Kernel2Ideal Cert.Kernel2Ideal.Gen

variable (m : (ℓ : Loc nD τ sig) → Buf (Elt Ideal) ℓ) (c : Dev nD) (t : Fin cfg0.N)

/-- The program's arguments. -/
def args : DenseRef.Args :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6), m ((c : Thread nD τ).loc main_arg7),
    m ((c : Thread nD τ).loc main_arg8), m ((c : Thread nD τ).loc main_arg9), m ((c : Thread nD τ).loc main_arg10), m ((c : Thread nD τ).loc main_arg11),
    m ((c : Thread nD τ).loc main_arg12), m ((c : Thread nD τ).loc main_arg13), m ((c : Thread nD τ).loc main_arg14), m ((c : Thread nD τ).loc main_arg15),
    m ((c : Thread nD τ).loc main_arg16), m ((c : Thread nD τ).loc main_arg17)⟩

/-- The blocks a point reads. -/
def insAt : Ins :=
  ⟨iblk m c 0 t, iblk m c 1 t, iblk m c 2 t, iblk m c 3 t, iblk m c 4 t, iblk m c 5 t, iblk m c 6 t, iblk m c 7 t, iblk m c 8 t,
    iblk m c 9 t, iblk m c 10 t, iblk m c 11 t, iblk m c 12 t, iblk m c 13 t, iblk m c 14 t, iblk m c 15 t, iblk m c 16 t, iblk m c 17 t⟩

theorem idx0 : ∀ t : Fin cfg0.N, win0_0.index t = ![t.val / 4, t.val % 4, 0] := by decide +kernel
theorem idx1 : ∀ t : Fin cfg0.N, win0_1.index t = ![t.val / 4, t.val % 4, 0] := by decide +kernel
theorem idx2 : ∀ t : Fin cfg0.N, win0_2.index t = ![t.val / 4, t.val % 4, 0] := by decide +kernel
theorem idx3 : ∀ t : Fin cfg0.N, win0_3.index t = ![t.val / 4, t.val % 4, 0] := by decide +kernel
theorem idx4 : ∀ t : Fin cfg0.N, win0_4.index t = ![t.val / 4, 0, 0] := by decide +kernel
theorem idx5 : ∀ t : Fin cfg0.N, win0_5.index t = ![t.val / 4, 0, 0] := by decide +kernel
theorem idx6 : ∀ t : Fin cfg0.N, win0_6.index t = ![t.val / 4, 0, 0] := by decide +kernel
theorem idx7 : ∀ t : Fin cfg0.N, win0_7.index t = ![t.val / 4, 0, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![0, 0] := by decide +kernel
theorem idx12 : ∀ t : Fin cfg0.N, win0_12.index t = ![0, 0] := by decide +kernel
theorem idx13 : ∀ t : Fin cfg0.N, win0_13.index t = ![0, 0] := by decide +kernel
theorem idx14 : ∀ t : Fin cfg0.N, win0_14.index t = ![0, 0] := by decide +kernel
theorem idx15 : ∀ t : Fin cfg0.N, win0_15.index t = ![0, 0] := by decide +kernel
theorem idx16 : ∀ t : Fin cfg0.N, win0_16.index t = ![0, 0] := by decide +kernel
theorem idx17 : ∀ t : Fin cfg0.N, win0_17.index t = ![0, 0] := by decide +kernel
theorem idx18 : ∀ t : Fin cfg0.N, win0_18.index t = ![t.val / 4, t.val % 4, 0] := by decide +kernel
theorem idx19 : ∀ t : Fin cfg0.N, win0_19.index t = ![t.val / 4, 0, 0] := by decide +kernel

theorem lt_grid (t : Fin cfg0.N) : t.val < 32 := t.isLt

/-- The batch row of a point. -/
def bat : Fin 8 := ⟨t.val / 4, by have := lt_grid t; omega⟩
/-- The token row `i` of its tile. -/
def tok (i : Fin 512) : Fin 2048 := ⟨t.val % 4 * 512 + i.val, by omega⟩

theorem og_at (i : Fin 512) (e : Fin 1024) : iblk m c 0 t (ix3 0 i e) = m ((c : Thread nD τ).loc main_arg0) (ix3 (bat t) (tok t i) e) := by
  blk_ext [iblk, V_main_arg0, idx0 t, bat, tok]

theorem ob_at (i : Fin 512) (e : Fin 1024) : iblk m c 1 t (ix3 0 i e) = m ((c : Thread nD τ).loc main_arg1) (ix3 (bat t) (tok t i) e) := by
  blk_ext [iblk, V_main_arg1, idx1 t, bat, tok]

theorem x_at (i : Fin 512) (e : Fin 1024) : iblk m c 3 t (ix3 0 i e) = m ((c : Thread nD τ).loc main_arg3) (ix3 (bat t) (tok t i) e) := by
  blk_ext [iblk, V_main_arg3, idx3 t, bat, tok]

theorem gates_at (i : Fin 512) (e : Fin 2048) : iblk m c 2 t (ix3 0 i e) = m ((c : Thread nD τ).loc main_arg2) (ix3 (bat t) (tok t i) e) := by
  blk_ext [iblk, V_main_arg2, idx2 t, bat, tok]

theorem gt1_at (e : Fin 1024) : iblk m c 4 t (ix3 0 0 e) = m ((c : Thread nD τ).loc main_arg4) (ix2 (bat t) e) := by
  unfold iblk
  rw [View.read_apply]
  entry_read
  pointwise
  blk_ext [iblk, idx4 t, bat]

theorem sh2_at (e : Fin 1024) : iblk m c 5 t (ix3 0 0 e) = m ((c : Thread nD τ).loc main_arg5) (ix2 (bat t) e) := by
  unfold iblk
  rw [View.read_apply]
  entry_read
  pointwise
  blk_ext [iblk, idx5 t, bat]

theorem sc2_at (e : Fin 1024) : iblk m c 6 t (ix3 0 0 e) = m ((c : Thread nD τ).loc main_arg6) (ix2 (bat t) e) := by
  unfold iblk
  rw [View.read_apply]
  entry_read
  pointwise
  blk_ext [iblk, idx6 t, bat]

theorem gt2_at (e : Fin 1024) : iblk m c 7 t (ix3 0 0 e) = m ((c : Thread nD τ).loc main_arg7) (ix2 (bat t) e) := by
  unfold iblk
  rw [View.read_apply]
  entry_read
  pointwise
  blk_ext [iblk, idx7 t, bat]

theorem n2_at (e : Fin 1024) : iblk m c 8 t (ix2 0 e) = m ((c : Thread nD τ).loc main_arg8) (ix2 0 e) := by
  blk_ext [iblk, V_main_arg8, idx8 t, bat, tok]

theorem fn_at (e : Fin 1024) : iblk m c 9 t (ix2 0 e) = m ((c : Thread nD τ).loc main_arg9) (ix1 e) := by
  unfold iblk
  rw [View.read_apply]
  entry_read
  pointwise
  blk_ext [iblk, idx9 t, bat]

theorem wa_at (i e : Fin 1024) : iblk m c 10 t (ix2 i e) = m ((c : Thread nD τ).loc main_arg10) (ix3 0 i e) := by
  unfold iblk
  rw [View.read_apply]
  entry_read
  pointwise
  blk_ext [iblk, idx10 t, bat]

theorem wb_at (i e : Fin 1024) : iblk m c 11 t (ix2 i e) = m ((c : Thread nD τ).loc main_arg11) (ix3 0 i e) := by
  unfold iblk
  rw [View.read_apply]
  entry_read
  pointwise
  blk_ext [iblk, idx11 t, bat]

theorem wo_at (i e : Fin 1024) : iblk m c 12 t (ix2 i e) = m ((c : Thread nD τ).loc main_arg12) (ix3 0 i e) := by
  unfold iblk
  rw [View.read_apply]
  entry_read
  pointwise
  blk_ext [iblk, idx12 t, bat]

theorem wg_at (i : Fin 1024) (e : Fin 2816) : iblk m c 13 t (ix2 i e) = m ((c : Thread nD τ).loc main_arg13) (ix3 0 i e) := by
  unfold iblk
  rw [View.read_apply]
  entry_read
  pointwise
  blk_ext [iblk, idx13 t, bat]

theorem wu_at (i : Fin 1024) (e : Fin 2816) : iblk m c 14 t (ix2 i e) = m ((c : Thread nD τ).loc main_arg14) (ix3 0 i e) := by
  unfold iblk
  rw [View.read_apply]
  entry_read
  pointwise
  blk_ext [iblk, idx14 t, bat]

theorem cw_at (i : Fin 3) (e : Fin 2816) : iblk m c 15 t (ix2 i e) = m ((c : Thread nD τ).loc main_arg15) (ix3 0 i e) := by
  unfold iblk
  rw [View.read_apply]
  entry_read
  pointwise
  blk_ext [iblk, idx15 t, bat]

theorem cb_at (e : Fin 2816) : iblk m c 16 t (ix2 0 e) = m ((c : Thread nD τ).loc main_arg16) (ix2 0 e) := by
  blk_ext [iblk, V_main_arg16, idx16 t, bat, tok]

theorem wd_at (i : Fin 2816) (e : Fin 1024) : iblk m c 17 t (ix2 i e) = m ((c : Thread nD τ).loc main_arg17) (ix3 0 i e) := by
  unfold iblk
  rw [View.read_apply]
  entry_read
  pointwise
  blk_ext [iblk, idx17 t, bat]

/-- A point's token rows are the arguments'. -/
theorem row_at (i : Fin 512) : row (insAt m c t) i = DenseRef.row (args m c) (bat t) (tok t i) :=
  DenseSpec.row_eq (og_at m c t i) (ob_at m c t i) (fun _ => gates_at m c t i _) (fun _ => gates_at m c t i _) (x_at m c t i)

end Cert.Dense
-- ==== Proof.DensePar.lean ====
/-
  The modulation and the weights a point of the dense kernel reads are the program's arguments.
-/
module

public import proofs.«01_k».proof.Proof.DenseArgs

@[expose] public section

noncomputable section

namespace Cert.Dense

open Idealize.ShloMosaic Idealize.ShloMosaic.TcCoe Idealize.SL.Sem
open Cert.Kernel2Ideal Cert.Kernel2Ideal.Gen

variable (m : (ℓ : Loc nD τ sig) → Buf (Elt Ideal) ℓ) (c : Dev nD) (t : Fin cfg0.N)

set_option maxHeartbeats 4000000 in
/-- A point's modulation and weights are the arguments'. -/
theorem par_at : par (insAt m c t) = DenseRef.par (args m c) (bat t) := by
  apply DenseSpec.par_eq
  · intro e
    exact gt1_at m c t e
  · intro e
    exact sh2_at m c t e
  · intro e
    exact sc2_at m c t e
  · intro e
    exact gt2_at m c t e
  · intro e
    exact n2_at m c t e
  · intro e
    exact fn_at m c t e
  · intro i e
    exact wa_at m c t i e
  · intro i e
    exact wb_at m c t i e
  · intro i e
    exact wo_at m c t i e
  · intro i e
    exact wg_at m c t i e
  · intro i e
    exact wu_at m c t i e
  · intro i e
    exact cw_at m c t i e
  · intro e
    exact cb_at m c t e
  · intro i e
    exact wd_at m c t i e

end Cert.Dense
-- ==== Proof.DenseBlock.lean ====
/-
  What the dense kernel's grid points leave, as rows of the arguments: a point at batch row `b` and tile `n` reads rows
  `n * 512 ..` of the tokens, and the carry it finds is the gate's last rows of the tile before, or zero at the first.
-/
module

public import proofs.«01_k».proof.Proof.DensePieces
public import proofs.«01_k».proof.Proof.DensePar

@[expose] public section

noncomputable section

namespace Cert.Dense

open Idealize.ShloMosaic Idealize.ShloMosaic.TcCoe Idealize.SL.Sem
open Cert.Kernel2Ideal Cert.Kernel2Ideal.Gen

variable (m : (ℓ : Loc nD τ sig) → Buf (Elt Ideal) ℓ) (c : Dev nD) (t : Fin cfg0.N)

/-- One store of a whole output tile leaves what it stored. -/
theorem y_canon (w : FVec Ideal S1x512x1024 .f32) :
    View.canon [(⟨Rect.unit (s := S1x512x1024) ![0, 0, 0] S1x512x1024.size inb_S1x512x1024_S1x512x1024_0_0_0, w⟩ :
      View.Piece (Elt Ideal) S1x512x1024 .f32)] = w := View.canon_unit_zero (S := S1x512x1024) (by decide) _ _

/-- So does one of a whole tile of carried rows. -/
theorem g_canon (w : FVec Ideal S1x8x2816 .f32) :
    View.canon [(⟨Rect.unit (s := S1x8x2816) ![0, 0, 0] S1x8x2816.size inb_S1x8x2816_S1x8x2816_0_0_0, w⟩ :
      View.Piece (Elt Ideal) S1x8x2816 .f32)] = w := View.canon_unit_zero (S := S1x8x2816) (by decide) _ _

/-- A first point's contents. -/
theorem outs_A (h0 : t.val % 4 = 0) :
    outsAt0 m c t.val t.isLt = (yTile scM0_1 (insAt m c t) (cinA scM0_2) initA scM0_0, gTile scM0_1 (insAt m c t) (cinA scM0_2) initA scM0_2,
      View.canon (gc scM0_1 (insAt m c t) (cinA scM0_2) initA 11 (le_refl 11)).2) := by
  rw [outsAt0_A m c t h0]
  unfold insAt
  refine Prod.ext ?_ (Prod.ext ?_ ?_)
  · dsimp only
    unfold out0_A_18
    rw [View.read_writes_junk_eq_canon, yA_raw, rawIns_eq]
    exact y_canon _
  · dsimp only
    unfold out0_A_19
    rw [View.read_writes_junk_eq_canon, gA_raw, rawIns_eq]
    exact g_canon _
  · dsimp only
    unfold sout0_A_2
    rw [View.read_writes_junk_eq_canon, cA_raw, rawIns_eq]

/-- The carry the point before left. -/
def before : Vec Ideal S8x2816 .f32 := (outsAt0 m c (t.val - 1) (Nat.lt_of_le_of_lt (Nat.sub_le _ _) t.isLt)).2.2

/-- A later point's contents, over the carry the point before left. -/
theorem outs_B (h0 : ¬ t.val % 4 = 0) :
    outsAt0 m c t.val t.isLt = (yTile scM0_1 (insAt m c t) (cinB (before m c t)) [] scM0_0, gTile scM0_1 (insAt m c t) (cinB (before m c t)) [] scM0_2,
      View.canon (gc scM0_1 (insAt m c t) (cinB (before m c t)) [] 11 (le_refl 11)).2) := by
  rw [outsAt0_B m c t h0]
  unfold insAt before
  refine Prod.ext ?_ (Prod.ext ?_ ?_)
  · dsimp only
    unfold out0_B_18
    rw [View.read_writes_junk_eq_canon, yB_raw, rawIns_eq, (Memref.isWhole_whole _).read_unread]
    exact y_canon _
  · dsimp only
    unfold out0_B_19
    rw [View.read_writes_junk_eq_canon, gB_raw, rawIns_eq, (Memref.isWhole_whole _).read_unread]
    exact g_canon _
  · dsimp only
    unfold sout0_B_2
    rw [View.read_writes_junk_eq_canon, cB_raw, rawIns_eq, (Memref.isWhole_whole _).read_unread]

/-- The carried rows a point finds. -/
def found : Vec Ideal S8x2816 .f32 := if t.val % 4 = 0 then fun _ => 0 else before m c t

theorem y_apply (i : Fin 512) (e : Fin 1024) :
    (outsAt0 m c t.val t.isLt).1 (ix3 0 i e) = DenseSpec.y (par (insAt m c t)) (row (insAt m c t) i)
      (back (insAt m c t) (found m c t) 2 i) (back (insAt m c t) (found m c t) 1 i) e := by
  unfold found
  by_cases h0 : t.val % 4 = 0
  · rw [outs_A m c t h0, if_pos h0]
    dsimp only
    rw [yTile_apply (insAt m c t) scM0_1 (carriedA (insAt m c t) scM0_1 scM0_2) scM0_0 i e]
  · rw [outs_B m c t h0, if_neg h0]
    dsimp only
    rw [yTile_apply (insAt m c t) scM0_1 (carriedB (insAt m c t) scM0_1 (before m c t) []) scM0_0 i e]

theorem g_apply (r : Fin 8) (f : Fin 2816) :
    (outsAt0 m c t.val t.isLt).2.1 (ix3 0 r f) = DenseSpec.gate (par (insAt m c t)) (row (insAt m c t) ⟨504 + r.val, by omega⟩) f := by
  by_cases h0 : t.val % 4 = 0
  · rw [outs_A m c t h0]
    dsimp only
    rw [gTile_apply]
  · rw [outs_B m c t h0]
    dsimp only
    rw [gTile_apply]

theorem c_apply (r : Fin 8) (f : Fin 2816) :
    (outsAt0 m c t.val t.isLt).2.2 (ix2 r f) = DenseSpec.gate (par (insAt m c t)) (row (insAt m c t) ⟨504 + r.val, by omega⟩) f := by
  by_cases h0 : t.val % 4 = 0
  · rw [outs_A m c t h0]
    dsimp only
    rw [carry_all]
  · rw [outs_B m c t h0]
    dsimp only
    rw [carry_all]

end Cert.Dense
-- ==== Proof.DenseEq.lean ====
/-
  The dense kernel computes the reference's dense half: the carry a point finds is the gate of the eight rows before its
  tile, so every row's convolution walks the same three gates as the reference's; the two arrays follow tile by tile.
-/
module

public import proofs.«01_k».proof.Defs
public import proofs.«01_k».proof.Proof.DenseBlock
public import proofs.«01_k».proof.Proof.Gen.Reference2Ideal.Read

@[expose] public section

noncomputable section

namespace Cert.Dense

open Idealize.ShloMosaic Idealize.ShloMosaic.TcCoe Idealize.SL.Sem
open Cert.Kernel2Ideal Cert.Kernel2Ideal.Gen

variable (m : (ℓ : Loc nD τ sig) → Buf (Elt Ideal) ℓ) (c : Dev nD) (t : Fin cfg0.N)

/-- The gate of a tile's row is the reference's. -/
theorem gate_at (i : Fin 512) (f : Fin 2816) :
    DenseSpec.gate (par (insAt m c t)) (row (insAt m c t) i) f
      = DenseSpec.gate (DenseRef.par (args m c) (bat t)) (DenseRef.row (args m c) (bat t) (tok t i)) f := by
  rw [par_at, row_at]

/-- The carry a point finds, as the reference's gates. -/
theorem before_at (h0 : ¬ t.val % 4 = 0) (r : Fin 8) (f : Fin 2816) :
    before m c t (ix2 r f) = DenseSpec.gate (DenseRef.par (args m c) (bat t))
      (DenseRef.row (args m c) (bat t) ⟨t.val % 4 * 512 + r.val - 8, by omega⟩) f := by
  have ht := lt_grid t
  have hp : t.val - 1 < cfg0.N := Nat.lt_of_le_of_lt (Nat.sub_le _ _) t.isLt
  have hb : bat ⟨t.val - 1, hp⟩ = bat t := Fin.ext (by show (t.val - 1) / 4 = t.val / 4; omega)
  have hr : tok ⟨t.val - 1, hp⟩ ⟨504 + r.val, by omega⟩ = ⟨t.val % 4 * 512 + r.val - 8, by omega⟩ :=
    Fin.ext (by show (t.val - 1) % 4 * 512 + (504 + r.val) = t.val % 4 * 512 + r.val - 8; omega)
  unfold before
  rw [c_apply m c ⟨t.val - 1, hp⟩ r f, gate_at, hb, hr]

/-- The gates `j` rows back in a tile are the reference's. -/
theorem back_at (j : Nat) (hj : j ≤ 2) (i : Fin 512) :
    back (insAt m c t) (found m c t) j i = DenseRef.back (args m c) (bat t) (tok t i) j := by
  funext f
  have ht := lt_grid t
  unfold back DenseRef.back
  by_cases hi : i.val < j
  · rw [dif_pos hi, dif_pos (by omega)]
    unfold found
    by_cases h0 : t.val % 4 = 0
    · rw [if_pos h0, dif_neg (by show ¬ j ≤ t.val % 4 * 512 + i.val; omega)]
    · rw [if_neg h0, before_at m c t h0, dif_pos (by show j ≤ t.val % 4 * 512 + i.val; omega)]
      refine congrArg (fun n => DenseSpec.gate (DenseRef.par (args m c) (bat t)) (DenseRef.row (args m c) (bat t) n) f) (Fin.ext ?_)
      show t.val % 4 * 512 + (8 + i.val - j) - 8 = t.val % 4 * 512 + i.val - j
      omega
  · rw [dif_neg hi, dif_pos (by show j ≤ t.val % 4 * 512 + i.val; omega), gate_at]
    refine congrArg (fun n => DenseSpec.gate (DenseRef.par (args m c) (bat t)) (DenseRef.row (args m c) (bat t) n) f) (Fin.ext ?_)
    show t.val % 4 * 512 + (i.val - j) = t.val % 4 * 512 + i.val - j
    omega

/-- The reference's output, of the kernel's arguments. -/
def refY : S8x2048x1024.Idx → EReal :=
  Reference2Ideal.Read.val_main_v104 (F := Ideal) (args m c).x0 (args m c).x1 (args m c).x2 (args m c).x3 (args m c).x4 (args m c).x5
    (args m c).x6 (args m c).x7 (args m c).x8 (args m c).x9 (args m c).x10 (args m c).x11 (args m c).x12 (args m c).x13 (args m c).x14
    (args m c).x15 (args m c).x16 (args m c).x17

/-- The reference's last gates, of the kernel's arguments. -/
def refG : S8x8x2816.Idx → EReal :=
  Reference2Ideal.Read.val_main_v105 (F := Ideal) (args m c).x0 (args m c).x1 (args m c).x2 (args m c).x3 (args m c).x4 (args m c).x5
    (args m c).x6 (args m c).x8 (args m c).x10 (args m c).x11 (args m c).x12 (args m c).x13

theorem y_at (i : Fin 512) (e : Fin 1024) :
    (outsAt0 m c t.val t.isLt).1 (ix3 0 i e) = refY m c (ix3 (bat t) (tok t i) e) := by
  refine Eq.trans ?_ (DenseRef.y_apply (args m c) (bat t) (tok t i) e).symm
  rw [y_apply, par_at, row_at, back_at m c t 2 (by omega), back_at m c t 1 (by omega)]

theorem g_at (h3 : t.val % 4 = 3) (r : Fin 8) (f : Fin 2816) :
    (outsAt0 m c t.val t.isLt).2.1 (ix3 0 r f) = refG m c (ix3 (bat t) r f) := by
  refine Eq.trans ?_ (DenseRef.g_apply (args m c) (bat t) r f).symm
  rw [g_apply, gate_at]
  refine congrArg (fun n => DenseSpec.gate (DenseRef.par (args m c) (bat t)) (DenseRef.row (args m c) (bat t) n) f) (Fin.ext ?_)
  show t.val % 4 * 512 + (504 + r.val) = 2040 + r.val
  omega

/-- The output array after the run. -/
theorem arr_y : (dats m 0 c).arrAt 18 cfg0.N = refY m c := by
  refine (dats m 0 c).arrAt_eq_of_covers 18 _ (by decide +kernel) fun t hf y => ?_
  rw [after0_18]
  have ht := lt_grid t
  have y0 : (y 0 : Nat) < 1 := (y 0).isLt
  have y1 : (y 1 : Nat) < 512 := (y 1).isLt
  have y2 : (y 2 : Nat) < 1024 := (y 2).isLt
  have hy : (cfg0.win 18).xinj (cfg0.grid.coords t) y = ix3 0 ⟨(y 1 : Nat), y1⟩ ⟨(y 2 : Nat), y2⟩ :=
    funext fun a => Fin.ext (by
      match a with
      | ⟨0, _⟩ => show (y 0 : Nat) = 0; omega
      | ⟨1, _⟩ => rfl
      | ⟨2, _⟩ => rfl)
  rw [hy]
  refine (y_at m c t _ _).trans ?_
  refine congrArg (refY m c) (funext fun a => Fin.ext ?_)
  match a with
  | ⟨0, _⟩ =>
    refine Eq.trans ?_ ((cfg0.win 18).rect_emb_val t y 0).symm
    rw [show (cfg0.win 18).index t 0 = t.val / 4 from congrFun (idx18 t) 0]
    show t.val / 4 = t.val / 4 * 1 + (y 0 : Nat)
    omega
  | ⟨1, _⟩ =>
    refine Eq.trans ?_ ((cfg0.win 18).rect_emb_val t y 1).symm
    rw [show (cfg0.win 18).index t 1 = t.val % 4 from congrFun (idx18 t) 1]
    show t.val % 4 * 512 + (y 1 : Nat) = t.val % 4 * 512 + (y 1 : Nat)
    rfl
  | ⟨2, _⟩ =>
    refine Eq.trans ?_ ((cfg0.win 18).rect_emb_val t y 2).symm
    rw [show (cfg0.win 18).index t 2 = 0 from congrFun (idx18 t) 2]
    show (y 2 : Nat) = 0 * 1024 + (y 2 : Nat)
    omega

/-- The carried rows leave for memory at a sequence's last tile. -/
theorem last : ∀ t : Fin cfg0.N, (cfg0.win 19).flush t = true → t.val % 4 = 3 := by decide +kernel

/-- The array of carried rows after the run. -/
theorem arr_g : (dats m 0 c).arrAt 19 cfg0.N = refG m c := by
  refine (dats m 0 c).arrAt_eq_of_covers 19 _ (by decide +kernel) fun t hf y => ?_
  rw [after0_19]
  have ht := lt_grid t
  have y0 : (y 0 : Nat) < 1 := (y 0).isLt
  have y1 : (y 1 : Nat) < 8 := (y 1).isLt
  have y2 : (y 2 : Nat) < 2816 := (y 2).isLt
  have hy : (cfg0.win 19).xinj (cfg0.grid.coords t) y = ix3 0 ⟨(y 1 : Nat), y1⟩ ⟨(y 2 : Nat), y2⟩ :=
    funext fun a => Fin.ext (by
      match a with
      | ⟨0, _⟩ => show (y 0 : Nat) = 0; omega
      | ⟨1, _⟩ => rfl
      | ⟨2, _⟩ => rfl)
  rw [hy]
  refine (g_at m c t (last t hf) _ _).trans ?_
  refine congrArg (refG m c) (funext fun a => Fin.ext ?_)
  match a with
  | ⟨0, _⟩ =>
    refine Eq.trans ?_ ((cfg0.win 19).rect_emb_val t y 0).symm
    rw [show (cfg0.win 19).index t 0 = t.val / 4 from congrFun (idx19 t) 0]
    show t.val / 4 = t.val / 4 * 1 + (y 0 : Nat)
    omega
  | ⟨1, _⟩ =>
    refine Eq.trans ?_ ((cfg0.win 19).rect_emb_val t y 1).symm
    rw [show (cfg0.win 19).index t 1 = 0 from congrFun (idx19 t) 1]
    show (y 1 : Nat) = 0 * 8 + (y 1 : Nat)
    omega
  | ⟨2, _⟩ =>
    refine Eq.trans ?_ ((cfg0.win 19).rect_emb_val t y 2).symm
    rw [show (cfg0.win 19).index t 2 = 0 from congrFun (idx19 t) 2]
    show (y 2 : Nat) = 0 * 2816 + (y 2 : Nat)
    omega

/-- The dense claim. -/
theorem algebraic : Cert.algebraic_Kernel2Ideal_Reference2Ideal := fun m g m' g' _ hagree =>
  ⟨refY m, refG m,
    (θ_run Cert.Kernel2Ideal.defs _ _).mono (fun _ h c => ⟨(h c).1.trans (arr_y m c), (h c).2.1.trans (arr_g m c), (h c).2.2⟩)
      (Cert.Kernel2Ideal.Value.run_blocks (F := Ideal) m g),
    (θ_run Cert.Reference2Ideal.defs _ _).mono (fun _ h c =>
      ⟨(h c).1.trans ((Cert.Reference2Ideal.Read.val_main_v104_eq _).trans (by
          obtain ⟨h0, h1, h2, h3, h4, h5, h6, h7, h8, h9, h10, h11, h12, h13, h14, h15, h16, h17⟩ := hagree c
          unfold refY args
          rw [← h0, ← h1, ← h2, ← h3, ← h4, ← h5, ← h6, ← h7, ← h8, ← h9, ← h10, ← h11, ← h12, ← h13, ← h14, ← h15, ← h16, ← h17])),
        (h c).2.1.trans ((Cert.Reference2Ideal.Read.val_main_v105_eq _).trans (by
          obtain ⟨h0, h1, h2, h3, h4, h5, h6, h7, h8, h9, h10, h11, h12, h13, h14, h15, h16, h17⟩ := hagree c
          unfold refG args
          rw [← h0, ← h1, ← h2, ← h3, ← h4, ← h5, ← h6, ← h8, ← h10, ← h11, ← h12, ← h13])),
        (h c).2.2⟩) (Cert.Reference2Ideal.Value.run (F := Ideal) m' g')⟩

end Cert.Dense
-- ==== Proof.StepRun.lean ====
/-
  The whole run of the decoding step's body, over any float values: what its stores leave in each output.
-/
module

public import proofs.«01_k».proof.Proof.Gen.Kernel3Ideal.Frame.Runs

@[expose] public section

-- membership in a rectangle of production extents (`View.cover_of_tiled`): the elaborator's structural look
-- recurses once per coordinate of the long axes
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the proof of a run of this many statements is large
set_option maxHeartbeats 4000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S8x128x128 .f32) (harg2 : arg2.IsWhole) (arg3 : Memref sig .tc .vmem S1x128x1024 .bf16) (harg3 : arg3.IsWhole) (arg4 : Memref sig .tc .vmem S1x128x2048 .f32) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x128x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S3x2816 .f32) (harg17 : arg17.IsWhole) (arg18 : Memref sig .tc .vmem S1x2816 .f32) (harg18 : arg18.IsWhole) (arg19 : Memref sig .tc .vmem S2816x1024 .bf16) (harg19 : arg19.IsWhole) (arg20 : Memref sig .tc .vmem S2x1x128x2816 .f32) (harg20 : arg20.IsWhole) (arg21 : Memref sig .tc .vmem S1x128x1024 .f32) (harg21 : arg21.IsWhole) (arg22 : Memref sig .tc .vmem S1x128 .f32) (harg22 : arg22.IsWhole) (arg23 : Memref sig .tc .vmem S1x128x1024 .f32) (harg23 : arg23.IsWhole) (arg24 : Memref sig .tc .vmem S1x128x2816 .f32) (harg24 : arg24.IsWhole) (arg25 : Memref sig .tc .vmem S128x2816 .bf16) (harg25 : arg25.IsWhole)
    (x0 : Vec F S8x128x128 .f32) (x1 : Vec F S1x128x1024 .bf16) (x2 : Vec F S1x128x2048 .f32) (x3 : Vec F S1x128x1024 .f32) (x4 : Vec F S1x128x1024 .f32) (x5 : Vec F S1x128x1024 .f32) (x6 : Vec F S1x128x1024 .f32) (x7 : Vec F S1x128x1024 .f32) (x8 : Vec F S1x1024 .f32) (x9 : Vec F S1x1024 .f32) (x10 : Vec F S1024x1024 .bf16) (x11 : Vec F S1024x1024 .bf16) (x12 : Vec F S1024x1024 .bf16) (x13 : Vec F S1024x2816 .bf16) (x14 : Vec F S1024x2816 .bf16) (x15 : Vec F S3x2816 .f32) (x16 : Vec F S1x2816 .f32) (x17 : Vec F S2816x1024 .bf16) (x18 : Vec F S2x1x128x2816 .f32) (x19 : Vec F S1x128x1024 .f32) (x20 : Vec F S1x128 .f32) :
    Σ' (L21 : List (View.Piece (Elt F) S1x128x1024 .f32)), Σ' (L22 : List (View.Piece (Elt F) S1x128x2816 .f32)), { LT0 : List (View.Piece (Elt F) S128x2816 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f LT0)) -∗ K ⟨⟩))
          ⊢ wp frame (wpE (defs₀ (F := F)) Variants.none c none) E (cc0_dense_step i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, fun E K => ?run⟩
  case run =>
    simp only [cc0_dense_step_eq_skeleton]; unfold cc0_dense_step_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]; · iexists _; iexact H21
    isplitl [H22]; · iexists _; iexact H22
    iexists _; iexact HS0

end Cert.Kernel3Ideal.Gen

end
-- ==== Proof.StepFrame.lean ====
/-
  The decoding step's frame, over any float values: its pallas_call run on the blocks that its windows name.
-/
module

public import proofs.«01_k».proof.Proof.StepRun
public import Idealize.ShloMosaic.Lib.Claim

@[expose] public section

-- membership in a rectangle of production extents (`View.cover_of_tiled`): the elaborator's structural look
-- recurses once per coordinate of the long axes
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 21 tile its block (1 store of `S1x128x1024`, checked by the kernel's evaluation: Lib/Ring.lean `Piece.tiledL`, linear in the pieces, through a loop's `@[irreducible]` trip theorem too), so they cover it. -/
theorem cover0_A_21 (c : Dev nD) (i : grid0.Coords) (arg2 : Memref sig .tc .vmem S8x128x128 .f32) (harg2 : arg2.IsWhole) (arg3 : Memref sig .tc .vmem S1x128x1024 .bf16) (harg3 : arg3.IsWhole) (arg4 : Memref sig .tc .vmem S1x128x2048 .f32) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x128x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S3x2816 .f32) (harg17 : arg17.IsWhole) (arg18 : Memref sig .tc .vmem S1x2816 .f32) (harg18 : arg18.IsWhole) (arg19 : Memref sig .tc .vmem S2816x1024 .bf16) (harg19 : arg19.IsWhole) (arg20 : Memref sig .tc .vmem S2x1x128x2816 .f32) (harg20 : arg20.IsWhole) (arg21 : Memref sig .tc .vmem S1x128x1024 .f32) (harg21 : arg21.IsWhole) (arg22 : Memref sig .tc .vmem S1x128 .f32) (harg22 : arg22.IsWhole) (arg23 : Memref sig .tc .vmem S1x128x1024 .f32) (harg23 : arg23.IsWhole) (arg24 : Memref sig .tc .vmem S1x128x2816 .f32) (harg24 : arg24.IsWhole) (arg25 : Memref sig .tc .vmem S128x2816 .bf16) (harg25 : arg25.IsWhole)
    (x0 : Vec F S8x128x128 .f32) (x1 : Vec F S1x128x1024 .bf16) (x2 : Vec F S1x128x2048 .f32) (x3 : Vec F S1x128x1024 .f32) (x4 : Vec F S1x128x1024 .f32) (x5 : Vec F S1x128x1024 .f32) (x6 : Vec F S1x128x1024 .f32) (x7 : Vec F S1x128x1024 .f32) (x8 : Vec F S1x1024 .f32) (x9 : Vec F S1x1024 .f32) (x10 : Vec F S1024x1024 .bf16) (x11 : Vec F S1024x1024 .bf16) (x12 : Vec F S1024x1024 .bf16) (x13 : Vec F S1024x2816 .bf16) (x14 : Vec F S1024x2816 .bf16) (x15 : Vec F S3x2816 .f32) (x16 : Vec F S1x2816 .f32) (x17 : Vec F S2816x1024 .bf16) (x18 : Vec F S2x1x128x2816 .f32) (x19 : Vec F S1x128x1024 .f32) (x20 : Vec F S1x128 .f32) (y : S1x128x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20).1 S1x128x1024.size (by sl_kernel_rfl) y

/-- What the run leaves in output 21's staging buffer: its pieces read back over junk. -/
def out0_A_21 (c : Dev nD) (i : grid0.Coords) (arg2 : Memref sig .tc .vmem S8x128x128 .f32) (harg2 : arg2.IsWhole) (arg3 : Memref sig .tc .vmem S1x128x1024 .bf16) (harg3 : arg3.IsWhole) (arg4 : Memref sig .tc .vmem S1x128x2048 .f32) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x128x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S3x2816 .f32) (harg17 : arg17.IsWhole) (arg18 : Memref sig .tc .vmem S1x2816 .f32) (harg18 : arg18.IsWhole) (arg19 : Memref sig .tc .vmem S2816x1024 .bf16) (harg19 : arg19.IsWhole) (arg20 : Memref sig .tc .vmem S2x1x128x2816 .f32) (harg20 : arg20.IsWhole) (arg21 : Memref sig .tc .vmem S1x128x1024 .f32) (harg21 : arg21.IsWhole) (arg22 : Memref sig .tc .vmem S1x128 .f32) (harg22 : arg22.IsWhole) (arg23 : Memref sig .tc .vmem S1x128x1024 .f32) (harg23 : arg23.IsWhole) (arg24 : Memref sig .tc .vmem S1x128x2816 .f32) (harg24 : arg24.IsWhole) (arg25 : Memref sig .tc .vmem S128x2816 .bf16) (harg25 : arg25.IsWhole)
    (x0 : Vec F S8x128x128 .f32) (x1 : Vec F S1x128x1024 .bf16) (x2 : Vec F S1x128x2048 .f32) (x3 : Vec F S1x128x1024 .f32) (x4 : Vec F S1x128x1024 .f32) (x5 : Vec F S1x128x1024 .f32) (x6 : Vec F S1x128x1024 .f32) (x7 : Vec F S1x128x1024 .f32) (x8 : Vec F S1x1024 .f32) (x9 : Vec F S1x1024 .f32) (x10 : Vec F S1024x1024 .bf16) (x11 : Vec F S1024x1024 .bf16) (x12 : Vec F S1024x1024 .bf16) (x13 : Vec F S1024x2816 .bf16) (x14 : Vec F S1024x2816 .bf16) (x15 : Vec F S3x2816 .f32) (x16 : Vec F S1x2816 .f32) (x17 : Vec F S2816x1024 .bf16) (x18 : Vec F S2x1x128x2816 .f32) (x19 : Vec F S1x128x1024 .f32) (x20 : Vec F S1x128 .f32) : Vec F S1x128x1024 .f32 :=
  VO0_21.read (Elt F) (VO0_21.writes (Elt F) VO0_21.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20).1)

/-- The run's pieces for output 22 tile its block (11 stores of `S1x128x256`, checked by the kernel's evaluation: Lib/Ring.lean `Piece.tiledL`, linear in the pieces, through a loop's `@[irreducible]` trip theorem too), so they cover it. -/
theorem cover0_A_22 (c : Dev nD) (i : grid0.Coords) (arg2 : Memref sig .tc .vmem S8x128x128 .f32) (harg2 : arg2.IsWhole) (arg3 : Memref sig .tc .vmem S1x128x1024 .bf16) (harg3 : arg3.IsWhole) (arg4 : Memref sig .tc .vmem S1x128x2048 .f32) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x128x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S3x2816 .f32) (harg17 : arg17.IsWhole) (arg18 : Memref sig .tc .vmem S1x2816 .f32) (harg18 : arg18.IsWhole) (arg19 : Memref sig .tc .vmem S2816x1024 .bf16) (harg19 : arg19.IsWhole) (arg20 : Memref sig .tc .vmem S2x1x128x2816 .f32) (harg20 : arg20.IsWhole) (arg21 : Memref sig .tc .vmem S1x128x1024 .f32) (harg21 : arg21.IsWhole) (arg22 : Memref sig .tc .vmem S1x128 .f32) (harg22 : arg22.IsWhole) (arg23 : Memref sig .tc .vmem S1x128x1024 .f32) (harg23 : arg23.IsWhole) (arg24 : Memref sig .tc .vmem S1x128x2816 .f32) (harg24 : arg24.IsWhole) (arg25 : Memref sig .tc .vmem S128x2816 .bf16) (harg25 : arg25.IsWhole)
    (x0 : Vec F S8x128x128 .f32) (x1 : Vec F S1x128x1024 .bf16) (x2 : Vec F S1x128x2048 .f32) (x3 : Vec F S1x128x1024 .f32) (x4 : Vec F S1x128x1024 .f32) (x5 : Vec F S1x128x1024 .f32) (x6 : Vec F S1x128x1024 .f32) (x7 : Vec F S1x128x1024 .f32) (x8 : Vec F S1x1024 .f32) (x9 : Vec F S1x1024 .f32) (x10 : Vec F S1024x1024 .bf16) (x11 : Vec F S1024x1024 .bf16) (x12 : Vec F S1024x1024 .bf16) (x13 : Vec F S1024x2816 .bf16) (x14 : Vec F S1024x2816 .bf16) (x15 : Vec F S3x2816 .f32) (x16 : Vec F S1x2816 .f32) (x17 : Vec F S2816x1024 .bf16) (x18 : Vec F S2x1x128x2816 .f32) (x19 : Vec F S1x128x1024 .f32) (x20 : Vec F S1x128 .f32) (y : S1x128x2816.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20).2.1 S1x128x256.size (by sl_kernel_rfl) y

/-- What the run leaves in output 22's staging buffer: its pieces read back over junk. -/
def out0_A_22 (c : Dev nD) (i : grid0.Coords) (arg2 : Memref sig .tc .vmem S8x128x128 .f32) (harg2 : arg2.IsWhole) (arg3 : Memref sig .tc .vmem S1x128x1024 .bf16) (harg3 : arg3.IsWhole) (arg4 : Memref sig .tc .vmem S1x128x2048 .f32) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x128x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S3x2816 .f32) (harg17 : arg17.IsWhole) (arg18 : Memref sig .tc .vmem S1x2816 .f32) (harg18 : arg18.IsWhole) (arg19 : Memref sig .tc .vmem S2816x1024 .bf16) (harg19 : arg19.IsWhole) (arg20 : Memref sig .tc .vmem S2x1x128x2816 .f32) (harg20 : arg20.IsWhole) (arg21 : Memref sig .tc .vmem S1x128x1024 .f32) (harg21 : arg21.IsWhole) (arg22 : Memref sig .tc .vmem S1x128 .f32) (harg22 : arg22.IsWhole) (arg23 : Memref sig .tc .vmem S1x128x1024 .f32) (harg23 : arg23.IsWhole) (arg24 : Memref sig .tc .vmem S1x128x2816 .f32) (harg24 : arg24.IsWhole) (arg25 : Memref sig .tc .vmem S128x2816 .bf16) (harg25 : arg25.IsWhole)
    (x0 : Vec F S8x128x128 .f32) (x1 : Vec F S1x128x1024 .bf16) (x2 : Vec F S1x128x2048 .f32) (x3 : Vec F S1x128x1024 .f32) (x4 : Vec F S1x128x1024 .f32) (x5 : Vec F S1x128x1024 .f32) (x6 : Vec F S1x128x1024 .f32) (x7 : Vec F S1x128x1024 .f32) (x8 : Vec F S1x1024 .f32) (x9 : Vec F S1x1024 .f32) (x10 : Vec F S1024x1024 .bf16) (x11 : Vec F S1024x1024 .bf16) (x12 : Vec F S1024x1024 .bf16) (x13 : Vec F S1024x2816 .bf16) (x14 : Vec F S1024x2816 .bf16) (x15 : Vec F S3x2816 .f32) (x16 : Vec F S1x2816 .f32) (x17 : Vec F S2816x1024 .bf16) (x18 : Vec F S2x1x128x2816 .f32) (x19 : Vec F S1x128x1024 .f32) (x20 : Vec F S1x128 .f32) : Vec F S1x128x2816 .f32 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20).2.1)

/-! ## What the outputs hold after each point -/

/-- What the outputs' staging buffers hold after the body at point `t` (as a tuple, in window order): the run's contents at
    the point's memrefs and input blocks. -/
def outsAt0 (c : Dev nD) (t : Fin cfg0.N) : Vec F S1x128x1024 .f32 × Vec F S1x128x2816 .f32 :=
  (out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => (outsAt0 m c t).1
    | ⟨22, _⟩ => (outsAt0 m c t).2
    | ⟨_ + 23, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = (outsAt0 m c t).1 := by dsimp only [dats]
theorem after0_22 (c : Dev nD) (t : Fin cfg0.N) : (dats m 0 c).after 22 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 2400000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  rw [show (dats m 0 c).Φ t.castSucc = Pipeline.ΦA spec0 c from rfl, PhiA0_eq]
  unfold outsAt0
  unfold out0_A_21 out0_A_22; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  isplitl [HS0]; · iexact HS0
  iintro ⟨H0, H1, H2, H3, H4, H5, H6, H7, H8, H9, H10, H11, H12, H13, H14, H15, H16, H17, H18, H19, H20, ⟨%e21, H21⟩, ⟨%e22, H22⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H22
  ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (A_eq m) (run_main m ρ)

/-- THE FRAME: `Cert.quiescent_Kernel3Ideal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  θ_run_and (unchanged m ρ) ((θ_run defs _ _).mono (fun _ h => h.2) (run_main_quiescent m ρ))

end Cert.Kernel3Ideal.Gen

end
-- ==== Proof.StepQuiet.lean ====
/-
  The decoding step's frame on machine floats. The kernel and the ideal kernel are the same text, so the run over any float
  values is both programs' run.
-/
module

public import proofs.«01_k».proof.Defs
public import proofs.«01_k».proof.Proof.Gen.Kernel3.Launch
public import proofs.«01_k».proof.Proof.StepFrame

@[expose] public section

noncomputable section

namespace Cert.Step

open Idealize.ShloMosaic Idealize.ShloMosaic.TcCoe Idealize.SL.Sem

set_option smartUnfolding false in
set_option maxHeartbeats 2000000 in
/-- The two programs' bodies are the same. -/
theorem same_defs : Cert.Kernel3.defs (F := Bits) = Cert.Kernel3Ideal.defs (F := Bits) := by with_unfolding_all rfl

set_option smartUnfolding false in
set_option maxHeartbeats 2000000 in
/-- So are their entries. -/
theorem same_main : Cert.Kernel3.main (F := Bits) = Cert.Kernel3Ideal.main (F := Bits) := by with_unfolding_all rfl

set_option smartUnfolding false in
set_option maxHeartbeats 2000000 in
/-- The kernel terminates, leaves its arguments, and every semaphore counter ends at zero. -/
theorem frame_kernel : Cert.quiescent_Kernel3 := fun m ρ _ => by
  rw [same_defs, same_main]
  with_unfolding_all exact Cert.Kernel3Ideal.Gen.frame (F := Bits) m ρ

end Cert.Step
-- ==== Proof.StepTile.lean ====
/-
  The decoding step's dense kernel, written once. It has one grid point. Its body norms and gates the eight heads of the
  recurrence's read, then walks 11 column chunks of the feed-forward part; every turn stores the chunk's gate into the
  second output and its activation into a scratch.
-/
module

public import proofs.«01_k».proof.Proof.Gen.Kernel3Ideal.Frame.Runs
public import Idealize.ShloMosaic.PureOps.Ideal

@[expose] public section

noncomputable section

namespace Cert.Step

open Idealize.ShloMosaic Idealize.ShloMosaic.TcCoe Idealize.SL.Sem
open Cert.Kernel3Ideal Cert.Kernel3Ideal.Gen

/-- The blocks the point reads, by their input's number. -/
structure Ins where
  x0 : Vec Ideal S8x128x128 .f32
  x1 : Vec Ideal S1x128x1024 .bf16
  x2 : Vec Ideal S1x128x2048 .f32
  x3 : Vec Ideal S1x128x1024 .f32
  x4 : Vec Ideal S1x128x1024 .f32
  x5 : Vec Ideal S1x128x1024 .f32
  x6 : Vec Ideal S1x128x1024 .f32
  x7 : Vec Ideal S1x128x1024 .f32
  x8 : Vec Ideal S1x1024 .f32
  x9 : Vec Ideal S1x1024 .f32
  x10 : Vec Ideal S1024x1024 .bf16
  x11 : Vec Ideal S1024x1024 .bf16
  x12 : Vec Ideal S1024x1024 .bf16
  x13 : Vec Ideal S1024x2816 .bf16
  x14 : Vec Ideal S1024x2816 .bf16
  x15 : Vec Ideal S3x2816 .f32
  x16 : Vec Ideal S1x2816 .f32
  x17 : Vec Ideal S2816x1024 .bf16
  x18 : Vec Ideal S2x1x128x2816 .f32
  x19 : Vec Ideal S1x128x1024 .f32
  x20 : Vec Ideal S1x128 .f32

/-- Head `h` of the recurrence's read. -/
def oRect (h : Nat) (hh : h < 8) : Rect S8x128x128 :=
  Rect.unit (s := S8x128x128) ![h, 0, 0] S1x128x128.size (by intro a; fin_cases a <;> simp <;> omega)
/-- Its columns of the gate. -/
def zRect (h : Nat) (hh : h < 8) : Rect S1x128x1024 :=
  Rect.unit (s := S1x128x1024) ![0, 0, h * 128] S1x128x128.size (by intro a; fin_cases a <;> simp <;> omega)
/-- The first half of the two mixers' gates. -/
def gaRect : Rect S1x128x2048 := Rect.unit (s := S1x128x2048) ![0, 0, 0] S1x128x1024.size inb_S1x128x2048_S1x128x1024_0_0_0
/-- The second half. -/
def gbRect : Rect S1x128x2048 := Rect.unit (s := S1x128x2048) ![0, 0, 1024] S1x128x1024.size inb_S1x128x2048_S1x128x1024_0_0_1024

variable (I : Ins)

/-- A head under its norm and gate. -/
def head (h : Nat) (hh : h < 8) : FVec Ideal S128x128 .bf16 :=
  k0_pay2 (F := Ideal) I.x20 (View.ld I.x0 (oRect h hh)) (View.ld I.x19 (zRect h hh))

/-- The heads side by side. -/
def heads : FVec Ideal S128x1024 .bf16 :=
  k0_pay12 (F := Ideal) I.x20 (head I 0 (by omega)) (head I 1 (by omega)) (head I 2 (by omega)) (head I 3 (by omega))
    (head I 4 (by omega)) (head I 5 (by omega)) (View.ld I.x0 (oRect 6 (by omega))) (View.ld I.x19 (zRect 6 (by omega)))
    (View.ld I.x0 (oRect 7 (by omega))) (View.ld I.x19 (zRect 7 (by omega)))

/-- The stream after the mixers. -/
def x1t : FVec Ideal S128x1024 .f32 :=
  k0_pay13 (F := Ideal) (heads I) I.x10 I.x1 I.x11 (View.ld I.x2 gaRect) (View.ld I.x2 gbRect) I.x3 I.x4 I.x12

/-- Its mean of squares, row by row. -/
def msq : FVec Ideal S128x1 .f32 :=
  k0_pay14 (F := Ideal) (heads I) I.x10 I.x1 I.x11 (View.ld I.x2 gaRect) (View.ld I.x2 gbRect) I.x3 I.x4 I.x12

/-- The feed-forward part's input. -/
def h2t : FVec Ideal S128x1024 .bf16 :=
  k0_pay15 (F := Ideal) (x1t I) I.x8 (msq I) (Scalar.ofBits (F := Ideal) .f32 0x358637BD#32) I.x6 I.x5

/-- Columns `k * 256 ..` of a projection. -/
def wRect (k : Nat) (h : k < 11) : Rect S1024x2816 :=
  Rect.unit (s := S1024x2816) ![0, k * 256] S1024x256.size (by intro a; fin_cases a <;> simp <;> omega)
/-- Those columns of the new gates. -/
def gRect (k : Nat) (h : k < 11) : Rect S1x128x2816 :=
  Rect.unit (s := S1x128x2816) ![0, 0, k * 256] S1x128x256.size (by intro a; fin_cases a <;> simp <;> omega)
/-- Those columns of carried row `j`. -/
def sRect (j k : Nat) (hj : j < 2) (h : k < 11) : Rect S2x1x128x2816 :=
  Rect.unit (s := S2x1x128x2816) ![j, 0, 0, k * 256] S1x1x128x256.size (by intro a; fin_cases a <;> simp <;> omega)
/-- Those columns of the activation. -/
def aRect (k : Nat) (h : k < 11) : Rect S128x2816 :=
  Rect.unit (s := S128x2816) ![0, k * 256] S128x256.size (by intro a; fin_cases a <;> simp <;> omega)
/-- Those columns of tap `j` of the convolution. -/
def tapRect (j k : Nat) (hj : j < 3) (h : k < 11) : Rect S3x2816 :=
  Rect.unit (s := S3x2816) ![j, k * 256] S1x256.size (by intro a; fin_cases a <;> simp <;> omega)
/-- Those columns of its bias. -/
def biasRect (k : Nat) (h : k < 11) : Rect S1x2816 :=
  Rect.unit (s := S1x2816) ![0, k * 256] S1x256.size (by intro a; fin_cases a <;> simp <;> omega)

/-- A chunk of the gate. -/
def gate (k : Nat) (h : k < 11) : FVec Ideal S128x256 .f32 := k0_pay22 (F := Ideal) (h2t I) (View.ld I.x13 (wRect k h))
/-- A chunk of the up projection. -/
def up (k : Nat) (h : k < 11) : FVec Ideal S128x256 .f32 := k0_pay23 (F := Ideal) (h2t I) (View.ld I.x14 (wRect k h))

/-- The stores into the new gates. -/
abbrev GStores := List (View.Piece (Elt Ideal) S1x128x2816 .f32)
/-- The stores into the activation. -/
abbrev AStores := List (View.Piece (Elt Ideal) S128x2816 .bf16)

/-- The stores of the new gates after `n` turns. -/
def gates : (n : Nat) → n ≤ 11 → GStores
  | 0, _ => []
  | k + 1, h => ⟨gRect k h, k0_pay32 (F := Ideal) (gate I k h)⟩ :: gates k (Nat.le_of_lt h)

/-- The stores of the activation after `n` turns. -/
def acts : (n : Nat) → n ≤ 11 → AStores
  | 0, _ => []
  | k + 1, h =>
    ⟨aRect k h, k0_pay33 (F := Ideal) (gate I k h) (up I k h) (k0_pay30 (F := Ideal) (View.ld I.x18 (sRect 0 k (by omega) h)))
      (k0_pay31 (F := Ideal) (View.ld I.x18 (sRect 1 k (by omega) h))) (View.ld I.x15 (tapRect 0 k (by omega) h))
      (View.ld I.x15 (tapRect 1 k (by omega) h)) (View.ld I.x15 (tapRect 2 k (by omega) h)) (View.ld I.x16 (biasRect k h))⟩
      :: acts k (Nat.le_of_lt h)

variable (va : Memref sig .tc .vmem S128x2816 .bf16)

/-- The activation read back. -/
def actRead : Vec Ideal S128x2816 .bf16 :=
  va.view.readCov (acts I 11 (le_refl 11)) (Rect.unit (s := S128x2816) ![0, 0] S128x2816.size inb_S128x2816_S128x2816_0_0).toLoadRect

/-- The rows the point writes of the layer's output. -/
def yTile : FVec Ideal S1x128x1024 .f32 :=
  k0_pay1 (F := Ideal) (k0_pay74 (F := Ideal) (x1t I) I.x7 (actRead I va) I.x17) (k0_pay75 (F := Ideal) I.x9)
    (k0_pay76 (F := Ideal) (x1t I) I.x7 (actRead I va) I.x17)

end Cert.Step
-- ==== Proof.StepValue.lean ====
/-
  What the decoding step's pallas_call leaves in its results, over any float values.
-/
module

public import proofs.«01_k».proof.Proof.StepFrame
public import Idealize.ShloMosaic.Lib.Pipeline.Value

@[expose] public section

noncomputable section

namespace Cert.Kernel3Ideal.Value

open Cert.Kernel3Ideal Cert.Kernel3Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 21's array: the run's contents for that window after the body (`Gen.outsAt0`: its component 0), read through the window's block. -/
theorem flushed21 (c : Dev nD) (t : Fin cfg0.N) :
    (dats m 0 c).flushed 21 t = (cfg0.win 21).cut (grid0.coords t) ((outsAt0 m c t).1) := by
  show (cfg0.win 21).cut (grid0.coords t) ((dats m 0 c).after 21 t) = _
  rw [after0_21]

/-- … so at a point where case A runs, what its write-back would write is that case's NAMED TERM for the window (`Gen.out0_A_21`: the pieces
    its run found, read back) at the point's memrefs and input blocks, and for an output the case reads back what the point before left (`Gen.outsAt0` at `t - 1`) — the kernel's one case, `Gen.outsAt0` by definition. -/
theorem flushed21_A (c : Dev nD) (t : Fin cfg0.N) :
    (dats m 0 c).flushed 21 t = (cfg0.win 21).cut (grid0.coords t) (out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) := by
  simp only [flushed21, outsAt0]

/-- The index map sends distinct grid points to distinct block indices (decided over the 1 point). -/
theorem idx_inj21 : ∀ t t' : Fin cfg0.N, win0_21.index t = win0_21.index t' → t = t' :=
  (by decide +kernel : ∀ t t' : Fin grid0.N, win0_21.index t = win0_21.index t' → t = t')

/-- So two flushing points' blocks share no array index (Lib/Pipeline/Cells.lean `Window.disjoint_blk`). -/
theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

/-- BLOCK `t` OF THE FINAL ARRAY, read back through the window, is what point `t` wrote back (`flushed21`), for every
    point that writes back: no other point's block meets it. -/
theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 disjoint21 cfg0.N t t.isLt hf

/-- An index that no flushing point's block covers keeps output window 21's array contents at region entry. -/
theorem entry21 (c : Dev nD) (i : S1x128x1024.Idx) (h : ∀ t : Fin cfg0.N, (cfg0.win 21).flush t = true → i ∉ ((cfg0.win 21).blk t).view.set) :
    (dats m 0 c).arrAt 21 cfg0.N i = V m c (Pipeline.arrRef spec0 21) i := by
  rw [(dats m 0 c).arrAt_apply_of_forall_not_mem 21 cfg0.N i (fun t _ hf => h t hf), A_eq]

/-- WHAT POINT `t` WRITES BACK to output window 22's array: the run's contents for that window after the body (`Gen.outsAt0`: its component 1), read through the window's block. -/
theorem flushed22 (c : Dev nD) (t : Fin cfg0.N) :
    (dats m 0 c).flushed 22 t = (cfg0.win 22).cut (grid0.coords t) ((outsAt0 m c t).2) := by
  show (cfg0.win 22).cut (grid0.coords t) ((dats m 0 c).after 22 t) = _
  rw [after0_22]

/-- … so at a point where case A runs, what its write-back would write is that case's NAMED TERM for the window (`Gen.out0_A_22`: the pieces
    its run found, read back) at the point's memrefs and input blocks, and for an output the case reads back what the point before left (`Gen.outsAt0` at `t - 1`) — the kernel's one case, `Gen.outsAt0` by definition. -/
theorem flushed22_A (c : Dev nD) (t : Fin cfg0.N) :
    (dats m 0 c).flushed 22 t = (cfg0.win 22).cut (grid0.coords t) (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) := by
  simp only [flushed22, outsAt0]

/-- The index map sends distinct grid points to distinct block indices (decided over the 1 point). -/
theorem idx_inj22 : ∀ t t' : Fin cfg0.N, win0_22.index t = win0_22.index t' → t = t' :=
  (by decide +kernel : ∀ t t' : Fin grid0.N, win0_22.index t = win0_22.index t' → t = t')

/-- So two flushing points' blocks share no array index (Lib/Pipeline/Cells.lean `Window.disjoint_blk`). -/
theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

/-- BLOCK `t` OF THE FINAL ARRAY, read back through the window, is what point `t` wrote back (`flushed22`), for every
    point that writes back: no other point's block meets it. -/
theorem blocks22 (c : Dev nD) (t : Fin cfg0.N) (hf : (cfg0.win 22).flush t = true) :
    ((cfg0.win 22).blk t).view.read (Elt F) ((dats m 0 c).arrAt 22 cfg0.N) = (dats m 0 c).flushed 22 t :=
  (dats m 0 c).read_blk_arrAt_eq_flushed 22 disjoint22 cfg0.N t t.isLt hf

/-- An index that no flushing point's block covers keeps output window 22's array contents at region entry. -/
theorem entry22 (c : Dev nD) (i : S1x128x2816.Idx) (h : ∀ t : Fin cfg0.N, (cfg0.win 22).flush t = true → i ∉ ((cfg0.win 22).blk t).view.set) :
    (dats m 0 c).arrAt 22 cfg0.N i = V m c (Pipeline.arrRef spec0 22) i := by
  rw [(dats m 0 c).arrAt_apply_of_forall_not_mem 22 cfg0.N i (fun t _ hf => h t hf), A_eq]

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v28_0) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v28_1) = (dats m 0 c).arrAt 22 cfg0.N :=
  (h c).1 22

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: input window 20 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 20).trans (((dats m 0 c).arrAt_in 20 rfl _).trans ((A_eq m c 20).trans (V_main_arg10 m c)))

/-- After the frame run, argument `main_arg11` is as launched: input window 8 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 8).trans (((dats m 0 c).arrAt_in 8 rfl _).trans ((A_eq m c 8).trans (V_main_arg11 m c)))

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- After the frame run, argument `main_arg17` is as launched: no window stages it, and the run leaves the region's other buffers as they were. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

/-- After the frame run, argument `main_arg18` is as launched: no window stages it, and the run leaves the region's other buffers as they were. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)

/-- After the frame run, argument `main_arg19` is as launched: input window 16 stages it and never writes it back. -/
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).1 16).trans (((dats m 0 c).arrAt_in 16 rfl _).trans ((A_eq m c 16).trans (V_main_arg19 m c)))

/-- After the frame run, argument `main_arg20` is as launched: no window stages it, and the run leaves the region's other buffers as they were. -/
theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).2 main_arg20 (Pipeline.mem_restRefs_of main_arg20 (by decide) (by decide))).trans (V_main_arg20 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v28_0) = (dats m 0 c).arrAt 21 cfg0.N
      ∧ r.2.mem ((c : Thread nD τ).loc main_v28_1) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun r h c => ⟨post21 m r h c,
      post22 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c⟩)
    (run_main m ρ)

end Cert.Kernel3Ideal.Value

end
-- ==== Proof.StepPieces.lean ====
/-
  The stores of the decoding step's generated run are those of `Cert.Step`.
-/
module

public import proofs.«01_k».proof.Proof.StepTile
public import proofs.«01_k».proof.Proof.StepValue
public import Idealize.ShloMosaic.Lib.Pipeline.Value

@[expose] public section

noncomputable section

namespace Cert.Step

open Idealize.ShloMosaic Idealize.ShloMosaic.TcCoe Idealize.SL.Sem
open Cert.Kernel3Ideal Cert.Kernel3Ideal.Gen

set_option maxRecDepth 16384

variable (c : Dev nD) (i : grid0.Coords) (arg2 : Memref sig .tc .vmem S8x128x128 .f32) (harg2 : arg2.IsWhole) (arg3 :
  Memref sig .tc .vmem S1x128x1024 .bf16) (harg3 : arg3.IsWhole) (arg4 : Memref sig .tc .vmem S1x128x2048 .f32) (harg4 :
  arg4.IsWhole) (arg5 : Memref sig .tc .vmem S1x128x1024 .f32) (harg5 : arg5.IsWhole) (arg6 : Memref sig .tc .vmem
  S1x128x1024 .f32) (harg6 : arg6.IsWhole) (arg7 : Memref sig .tc .vmem S1x128x1024 .f32) (harg7 : arg7.IsWhole) (arg8 :
  Memref sig .tc .vmem S1x128x1024 .f32) (harg8 : arg8.IsWhole) (arg9 : Memref sig .tc .vmem S1x128x1024 .f32) (harg9 :
  arg9.IsWhole) (arg10 : Memref sig .tc .vmem S1x1024 .f32) (harg10 : arg10.IsWhole) (arg11 : Memref sig .tc .vmem
  S1x1024 .f32) (harg11 : arg11.IsWhole) (arg12 : Memref sig .tc .vmem S1024x1024 .bf16) (harg12 : arg12.IsWhole) (arg13
  : Memref sig .tc .vmem S1024x1024 .bf16) (harg13 : arg13.IsWhole) (arg14 : Memref sig .tc .vmem S1024x1024 .bf16)
  (harg14 : arg14.IsWhole) (arg15 : Memref sig .tc .vmem S1024x2816 .bf16) (harg15 : arg15.IsWhole) (arg16 : Memref sig
  .tc .vmem S1024x2816 .bf16) (harg16 : arg16.IsWhole) (arg17 : Memref sig .tc .vmem S3x2816 .f32) (harg17 :
  arg17.IsWhole) (arg18 : Memref sig .tc .vmem S1x2816 .f32) (harg18 : arg18.IsWhole) (arg19 : Memref sig .tc .vmem
  S2816x1024 .bf16) (harg19 : arg19.IsWhole) (arg20 : Memref sig .tc .vmem S2x1x128x2816 .f32) (harg20 : arg20.IsWhole)
  (arg21 : Memref sig .tc .vmem S1x128x1024 .f32) (harg21 : arg21.IsWhole) (arg22 : Memref sig .tc .vmem S1x128 .f32)
  (harg22 : arg22.IsWhole) (arg23 : Memref sig .tc .vmem S1x128x1024 .f32) (harg23 : arg23.IsWhole) (arg24 : Memref sig
  .tc .vmem S1x128x2816 .f32) (harg24 : arg24.IsWhole) (arg25 : Memref sig .tc .vmem S128x2816 .bf16) (harg25 :
  arg25.IsWhole) (x0 : Vec Ideal S8x128x128 .f32) (x1 : Vec Ideal S1x128x1024 .bf16) (x2 : Vec Ideal S1x128x2048 .f32)
  (x3 : Vec Ideal S1x128x1024 .f32) (x4 : Vec Ideal S1x128x1024 .f32) (x5 : Vec Ideal S1x128x1024 .f32) (x6 : Vec Ideal
  S1x128x1024 .f32) (x7 : Vec Ideal S1x128x1024 .f32) (x8 : Vec Ideal S1x1024 .f32) (x9 : Vec Ideal S1x1024 .f32) (x10 :
  Vec Ideal S1024x1024 .bf16) (x11 : Vec Ideal S1024x1024 .bf16) (x12 : Vec Ideal S1024x1024 .bf16) (x13 : Vec Ideal
  S1024x2816 .bf16) (x14 : Vec Ideal S1024x2816 .bf16) (x15 : Vec Ideal S3x2816 .f32) (x16 : Vec Ideal S1x2816 .f32)
  (x17 : Vec Ideal S2816x1024 .bf16) (x18 : Vec Ideal S2x1x128x2816 .f32) (x19 : Vec Ideal S1x128x1024 .f32) (x20 : Vec
  Ideal S1x128 .f32)

/-- The blocks as the run reads them. -/
abbrev rawIns : Ins :=
  ⟨arg2.view.read (Elt Ideal) (harg2.unread x0),
    View.ld (arg3.view.read (Elt Ideal) (harg3.unread x1)) (Rect.unit (s := S1x128x1024) ![0, 0, 0] S1x128x1024.size inb_S1x128x1024_S1x128x1024_0_0_0),
    arg4.view.read (Elt Ideal) (harg4.unread x2),
    View.ld (arg5.view.read (Elt Ideal) (harg5.unread x3)) (Rect.unit (s := S1x128x1024) ![0, 0, 0] S1x128x1024.size inb_S1x128x1024_S1x128x1024_0_0_0),
    View.ld (arg6.view.read (Elt Ideal) (harg6.unread x4)) (Rect.unit (s := S1x128x1024) ![0, 0, 0] S1x128x1024.size inb_S1x128x1024_S1x128x1024_0_0_0),
    View.ld (arg7.view.read (Elt Ideal) (harg7.unread x5)) (Rect.unit (s := S1x128x1024) ![0, 0, 0] S1x128x1024.size inb_S1x128x1024_S1x128x1024_0_0_0),
    View.ld (arg8.view.read (Elt Ideal) (harg8.unread x6)) (Rect.unit (s := S1x128x1024) ![0, 0, 0] S1x128x1024.size inb_S1x128x1024_S1x128x1024_0_0_0),
    View.ld (arg9.view.read (Elt Ideal) (harg9.unread x7)) (Rect.unit (s := S1x128x1024) ![0, 0, 0] S1x128x1024.size inb_S1x128x1024_S1x128x1024_0_0_0),
    View.ld (arg10.view.read (Elt Ideal) (harg10.unread x8)) (Rect.unit (s := S1x1024) ![0, 0] S1x1024.size inb_S1x1024_S1x1024_0_0),
    View.ld (arg11.view.read (Elt Ideal) (harg11.unread x9)) (Rect.unit (s := S1x1024) ![0, 0] S1x1024.size inb_S1x1024_S1x1024_0_0),
    View.ld (arg12.view.read (Elt Ideal) (harg12.unread x10)) (Rect.unit (s := S1024x1024) ![0, 0] S1024x1024.size inb_S1024x1024_S1024x1024_0_0),
    View.ld (arg13.view.read (Elt Ideal) (harg13.unread x11)) (Rect.unit (s := S1024x1024) ![0, 0] S1024x1024.size inb_S1024x1024_S1024x1024_0_0),
    View.ld (arg14.view.read (Elt Ideal) (harg14.unread x12)) (Rect.unit (s := S1024x1024) ![0, 0] S1024x1024.size inb_S1024x1024_S1024x1024_0_0),
    arg15.view.read (Elt Ideal) (harg15.unread x13),
    arg16.view.read (Elt Ideal) (harg16.unread x14),
    arg17.view.read (Elt Ideal) (harg17.unread x15),
    arg18.view.read (Elt Ideal) (harg18.unread x16),
    View.ld (arg19.view.read (Elt Ideal) (harg19.unread x17)) (Rect.unit (s := S2816x1024) ![0, 0] S2816x1024.size inb_S2816x1024_S2816x1024_0_0),
    arg20.view.read (Elt Ideal) (harg20.unread x18),
    arg21.view.read (Elt Ideal) (harg21.unread x19),
    View.ld (arg22.view.read (Elt Ideal) (harg22.unread x20)) (Rect.unit (s := S1x128) ![0, 0] S1x128.size inb_S1x128_S1x128_0_0)⟩

/-- They are the blocks. -/
theorem rawIns_eq : rawIns arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19
    harg19 arg20 harg20 arg21 harg21 arg22 harg22 x0 x1 x2 x3 x4 x5 x6 x7 x8 x9 x10 x11 x12 x13 x14 x15 x16 x17 x18 x19
    x20 = ⟨x0, x1, x2, x3, x4, x5, x6, x7, x8, x9, x10, x11, x12, x13, x14, x15, x16, x17, x18, x19, x20⟩ := by
  unfold rawIns
  rw [harg2.read_unread, harg3.read_unread, harg4.read_unread, harg5.read_unread, harg6.read_unread, harg7.read_unread,
    harg8.read_unread, harg9.read_unread, harg10.read_unread, harg11.read_unread, harg12.read_unread,
    harg13.read_unread, harg14.read_unread, harg15.read_unread, harg16.read_unread, harg17.read_unread,
    harg18.read_unread, harg19.read_unread, harg20.read_unread, harg21.read_unread, harg22.read_unread, Ins.mk.injEq]
  exact ⟨rfl, View.ld_unit_zero (by decide) _ _, rfl, View.ld_unit_zero (by decide) _ _, View.ld_unit_zero (by decide) _
    _, View.ld_unit_zero (by decide) _ _, View.ld_unit_zero (by decide) _ _, View.ld_unit_zero (by decide) _ _,
    View.ld_unit_zero (by decide) _ _, View.ld_unit_zero (by decide) _ _, View.ld_unit_zero (by decide) _ _,
    View.ld_unit_zero (by decide) _ _, View.ld_unit_zero (by decide) _ _, rfl, rfl, rfl, rfl, View.ld_unit_zero (by
    decide) _ _, rfl, rfl, View.ld_unit_zero (by decide) _ _⟩

theorem y_raw :
    (kernelRun0_A (F := Ideal) c i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 arg21 harg21 arg22 harg22 arg23 harg23 arg24 harg24 arg25 harg25 x0 x1 x2 x3 x4
      x5 x6 x7 x8 x9 x10 x11 x12 x13 x14 x15 x16 x17 x18 x19 x20).1
      = [⟨Rect.unit (s := S1x128x1024) ![0, 0, 0] S1x128x1024.size inb_S1x128x1024_S1x128x1024_0_0_0,
        yTile (rawIns arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 arg21 harg21 arg22 harg22 x0 x1 x2 x3 x4 x5 x6 x7 x8 x9 x10 x11 x12 x13 x14 x15 x16 x17 x18 x19 x20)
      arg25⟩] := by
  sl_kernel_rfl

theorem g_raw :
    (kernelRun0_A (F := Ideal) c i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 arg21 harg21 arg22 harg22 arg23 harg23 arg24 harg24 arg25 harg25 x0 x1 x2 x3 x4
      x5 x6 x7 x8 x9 x10 x11 x12 x13 x14 x15 x16 x17 x18 x19 x20).2.1
      = gates (rawIns arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 arg21 harg21 arg22 harg22 x0 x1 x2 x3 x4 x5 x6 x7 x8 x9 x10 x11 x12 x13 x14 x15 x16 x17 x18 x19 x20)
      11 (le_refl 11) := by
  sl_kernel_rfl

end Cert.Step
-- ==== Proof.StepSpec.lean ====
/-
  The output norm and gate of the recurrence's heads, on rows of extended reals: a head is divided by its root mean
  square, scaled by the norm's weight and gated.
-/
module

public import Idealize.ShloMosaic.PureOps.Ideal

@[expose] public section

noncomputable section

namespace Cert.StepSpec

open Idealize.ShloMosaic

/-- One head at one place: its norm, the norm's weight `w`, the gate `z`. -/
def headAt (o : Fin 128 → EReal) (w z : EReal) (d : Fin 128) : EReal :=
  o d * Ideal.rsqrt (Ideal.div (∑ l, o l * o l) (Ideal.ofBits .f32 0x43000000#32) + Ideal.ofBits .f32 0x358637BD#32) * w
    * (z * Ideal.logistic z)

/-- The head that column `c` belongs to. -/
def hd (c : Fin 1024) : Fin 8 := ⟨c.val / 128, by omega⟩
/-- Its place in that head. -/
def pl (c : Fin 1024) : Fin 128 := ⟨c.val % 128, by omega⟩

/-- All heads side by side. -/
def out (o : Fin 8 → Fin 128 → EReal) (w : Fin 128 → EReal) (z : Fin 1024 → EReal) (c : Fin 1024) : EReal :=
  headAt (o (hd c)) (w (pl c)) (z c) (pl c)

/-- The same at a column given by its head and place. -/
theorem out_at (o : Fin 8 → Fin 128 → EReal) (w : Fin 128 → EReal) (z : Fin 1024 → EReal) (h : Nat) (hh : h < 8) (d : Fin 128) (c : Fin 1024)
    (hc : c.val = h * 128 + d.val) : out o w z c = headAt (o ⟨h, hh⟩) (w d) (z c) d := by
  have h1 : hd c = ⟨h, hh⟩ := Fin.ext (by show c.val / 128 = h; omega)
  have h2 : pl c = d := Fin.ext (by show c.val % 128 = d.val; omega)
  unfold out
  rw [h1, h2]

end Cert.StepSpec
-- ==== Proof.StepRead.lean ====
/-
  The decoding step's stores read back: the heads under their norm and gate fill the first mixer's columns, the chunks of
  the gate fill the second output's, and the chunks of the activation the scratch's.
-/
module

public import proofs.«01_k».proof.Proof.StepTile
public import proofs.«01_k».proof.Proof.StepSpec
public import proofs.«01_k».proof.Proof.DenseRead
public import Idealize.ShloMosaic.Lib.Pipeline.ValueKit
public import Idealize.ShloMosaic.Lib.Pointwise

@[expose] public section

noncomputable section

namespace Cert.Step

open Idealize.ShloMosaic Idealize.ShloMosaic.TcCoe Idealize.SL.Sem
open Cert.Kernel3Ideal Cert.Kernel3Ideal.Gen
open Cert.Dense (canon_off col)

/-- A sequence's modulation and the weights, from the point's blocks. -/
def par (I : Ins) (i : Fin 128) : DenseSpec.Par where
  gt1 e := I.x4 (ix3 0 i e)
  sh2 e := I.x5 (ix3 0 i e)
  sc2 e := I.x6 (ix3 0 i e)
  gt2 e := I.x7 (ix3 0 i e)
  n2 e := I.x8 (ix2 0 e)
  fn e := I.x9 (ix2 0 e)
  wa c e := I.x10 (ix2 c e)
  wb c e := I.x11 (ix2 c e)
  wo c e := I.x12 (ix2 c e)
  wg c f := I.x13 (ix2 c f)
  wu c f := I.x14 (ix2 c f)
  cw j f := I.x15 (ix2 j f)
  cb f := I.x16 (ix2 0 f)
  wd f e := I.x17 (ix2 f e)

/-- A sequence's token, from the point's blocks. -/
def row (I : Ins) (i : Fin 128) : DenseSpec.Row where
  og := StepSpec.out (fun h d => I.x0 (ix3 h i d)) (fun d => I.x20 (ix2 0 d)) (fun c => I.x19 (ix3 0 i c))
  ob c := I.x1 (ix3 0 i c)
  ga l := I.x2 (ix3 0 i ⟨l.val, by omega⟩)
  gb l := I.x2 (ix3 0 i ⟨1024 + l.val, by omega⟩)
  x e := I.x3 (ix3 0 i e)

/-- Its carried gate `j`. -/
def st (I : Ins) (i : Fin 128) (j : Fin 2) (f : Fin 2816) : EReal := I.x18 (ix4 j 0 i f)

variable (I : Ins)

theorem head_apply (h : Nat) (hh : h < 8) (i : Fin 128) (d : Fin 128) (c : Fin 1024) (hc : c.val = h * 128 + d.val) :
    head I h hh (ix2 i d) = (row I i).og c := by
  refine Eq.trans ?_ (StepSpec.out_at (fun h d => I.x0 (ix3 h i d)) (fun d => I.x20 (ix2 0 d)) (fun c => I.x19 (ix3 0 i c)) h hh d c hc).symm
  have ho : ∀ d, View.ld I.x0 (oRect h hh) (ix3 0 i d) = I.x0 (ix3 ⟨h, hh⟩ i d) := fun d => congrArg I.x0 (by
    funext a
    fin_cases a
    · exact Fin.ext (by show h + 1 * 0 = h; omega)
    · exact Fin.ext (by show 0 + 1 * i.val = i.val; omega)
    · exact Fin.ext (by show 0 + 1 * d.val = d.val; omega))
  have hz : View.ld I.x19 (zRect h hh) (ix3 0 i d) = I.x19 (ix3 0 i c) := congrArg I.x19 (by
    funext a
    fin_cases a
    · rfl
    · exact Fin.ext (by show 0 + 1 * i.val = i.val; omega)
    · exact Fin.ext (by show h * 128 + 1 * d.val = c.val; omega))
  have hp : ∀ (w : Vec Ideal S1x128 .f32) (o z : Vec Ideal S1x128x128 .f32), k0_pay2 (F := Ideal) w o z (ix2 i d)
      = StepSpec.headAt (fun d => o (ix3 0 i d)) (w (ix2 0 d)) (z (ix3 0 i d)) d := fun w o z => by
    pointwise [k0_pay2]
    rfl
  refine (hp _ _ _).trans ?_
  rw [hz]
  exact congrArg (fun o => StepSpec.headAt o _ _ d) (funext ho)

/-- Eight blocks side by side, at a column of block `h`. -/
theorem side_by_side (v : (h : Nat) → h < 8 → FVec Ideal S128x128 .bf16) (i : Fin 128) (h : Nat) (hh : h < 8) (d : Fin 128) (c : Fin 1024)
    (hc : c.val = h * 128 + d.val) :
    (concatenate S128x1024 1 [⟨S128x128, v 0 (by omega)⟩, ⟨S128x128, v 1 (by omega)⟩, ⟨S128x128, v 2 (by omega)⟩, ⟨S128x128, v 3 (by omega)⟩,
      ⟨S128x128, v 4 (by omega)⟩, ⟨S128x128, v 5 (by omega)⟩, ⟨S128x128, v 6 (by omega)⟩, ⟨S128x128, v 7 (by omega)⟩]
      concatenates_S128x128_S128x128_S128x128_S128x128_S128x128_S128x128_S128x128_S128x128_S128x1024_d1 : FVec Ideal S128x1024 .bf16) (ix2 i c)
      = v h hh (ix2 i d) := by
  have hv : ∀ (j : Nat) (hj : j < 8) (q : Fin 128), j = h → q = d → v j hj (ix2 i q) = v h hh (ix2 i d) := by
    rintro j hj q rfl rfl
    rfl
  pointwise []
  split_ifs <;> exact hv _ _ _ (by omega) (Fin.ext (by dsimp only; omega))

theorem heads_apply (i : Fin 128) (c : Fin 1024) : heads I (ix2 i c) = (row I i).og c := by
  have hc : c.val = c.val / 128 * 128 + (⟨c.val % 128, by omega⟩ : Fin 128).val := by
    show c.val = c.val / 128 * 128 + c.val % 128
    omega
  exact (side_by_side (head I) i (c.val / 128) (by omega) ⟨c.val % 128, by omega⟩ c hc).trans (head_apply I _ _ i _ c hc)

theorem x1t_apply (i : Fin 128) (e : Fin 1024) : x1t I (ix2 i e) = DenseSpec.x1 (par I i) (row I i) e := by
  have ha : ∀ l : Fin 1024, View.ld I.x2 gaRect (ix3 0 i l) = I.x2 (ix3 0 i ⟨l.val, by omega⟩) := fun l => congrArg I.x2 (by
    funext a
    fin_cases a
    · rfl
    · exact Fin.ext (by show 0 + 1 * i.val = i.val; omega)
    · exact Fin.ext (by show 0 + 1 * l.val = l.val; omega))
  have hb : ∀ l : Fin 1024, View.ld I.x2 gbRect (ix3 0 i l) = I.x2 (ix3 0 i ⟨1024 + l.val, by omega⟩) := fun l => congrArg I.x2 (by
    funext a
    fin_cases a
    · rfl
    · exact Fin.ext (by show 0 + 1 * i.val = i.val; omega)
    · exact Fin.ext (by show 1024 + 1 * l.val = 1024 + l.val; omega))
  unfold x1t
  generalize View.ld I.x2 gaRect = ga at ha ⊢
  generalize View.ld I.x2 gbRect = gb at hb ⊢
  pointwise [k0_pay13]
  simp only [ha, hb, heads_apply]
  rfl

theorem msq_apply (i : Fin 128) : msq I (ix2 i 0)
    = Ideal.div (∑ e, DenseSpec.x1 (par I i) (row I i) e * DenseSpec.x1 (par I i) (row I i) e) (Ideal.ofBits .f32 0x44800000#32) := by
  have hx := x1t_apply I i
  unfold x1t at hx
  unfold msq k0_pay14
  pointwise []
  simp only [hx]

theorem h2t_apply (i : Fin 128) (e : Fin 1024) : h2t I (ix2 i e) = DenseSpec.h2 (par I i) (row I i) e := by
  unfold h2t
  pointwise [k0_pay15]
  simp only [x1t_apply, msq_apply]
  rfl

theorem gate_apply (k : Nat) (h : k < 11) (i : Fin 128) (f : Fin 256) :
    gate I k h (ix2 i f) = DenseSpec.gate (par I i) (row I i) (col k h f) := by
  unfold gate
  pointwise [k0_pay22]
  simp only [h2t_apply]
  refine Finset.sum_congr rfl fun l _ => ?_
  refine congrArg (DenseSpec.h2 (par I i) (row I i) l * ·) ?_
  exact congrArg I.x13 (congrArg₂ ix2 (Fin.ext (by show 0 + 1 * l.val = l.val; omega))
    (Fin.ext (by show k * 256 + 1 * f.val = k * 256 + f.val; omega)))

theorem up_apply (k : Nat) (h : k < 11) (i : Fin 128) (f : Fin 256) :
    up I k h (ix2 i f) = DenseSpec.up (par I i) (row I i) (col k h f) := by
  unfold up
  pointwise [k0_pay23]
  simp only [h2t_apply]
  refine Finset.sum_congr rfl fun l _ => ?_
  refine congrArg (DenseSpec.h2 (par I i) (row I i) l * ·) ?_
  exact congrArg I.x14 (congrArg₂ ix2 (Fin.ext (by show 0 + 1 * l.val = l.val; omega))
    (Fin.ext (by show k * 256 + 1 * f.val = k * 256 + f.val; omega)))

/-- A chunk of the activation with every operand known at that place. -/
theorem chunk_act (g u g2 g1 : FVec Ideal S128x256 .f32) (w0 w1 w2 cb : Vec Ideal S1x256 .f32) (i : Fin 128) (f : Fin 256)
    (P : DenseSpec.Par) (r : DenseSpec.Row) (b2 b1 : Fin 2816 → EReal) (q : Fin 2816)
    (hg : g (ix2 i f) = DenseSpec.gate P r q) (hu : u (ix2 i f) = DenseSpec.up P r q) (h2 : g2 (ix2 i f) = b2 q)
    (h1 : g1 (ix2 i f) = b1 q) (hw0 : w0 (ix2 0 f) = P.cw 0 q) (hw1 : w1 (ix2 0 f) = P.cw 1 q) (hw2 : w2 (ix2 0 f) = P.cw 2 q)
    (hcb : cb (ix2 0 f) = P.cb q) :
    k0_pay33 (F := Ideal) g u g2 g1 w0 w1 w2 cb (ix2 i f) = DenseSpec.act P r b2 b1 q := by
  pointwise [k0_pay33]
  rw [hg, hu, h2, h1, hw0, hw1, hw2, hcb]
  rfl

theorem not_mem_a (k : Nat) (h : k < 11) (i : Fin 128) (f : Fin 2816) (hf : ¬ k * 256 ≤ f.val) :
    (ix2 i f : S128x2816.Idx) ∉ (aRect k h).set := fun hm => hf (Rect.mem_set_unit.mp hm 1).1

theorem not_mem_g (k : Nat) (h : k < 11) (i : Fin 128) (f : Fin 2816) (hf : ¬ k * 256 ≤ f.val) :
    (ix3 0 i f : S1x128x2816.Idx) ∉ (gRect k h).set := fun hm => hf (Rect.mem_set_unit.mp hm 2).1

/-- The new gates after `n` turns, at a column done. -/
theorem gates_apply (n : Nat) (h : n ≤ 11) (i : Fin 128) (f : Fin 2816) (hf : f.val < n * 256) :
    View.canon (gates I n h) (ix3 0 i f) = DenseSpec.gate (par I i) (row I i) f := by
  induction n with
  | zero => omega
  | succ k ih =>
    have hk : k < 11 := h
    unfold gates
    by_cases hf' : k * 256 ≤ f.val
    · have he : (ix3 0 i f : S1x128x2816.Idx) = (gRect k hk).emb (ix3 0 i ⟨f.val - k * 256, by omega⟩) := by
        funext a
        fin_cases a
        · rfl
        · exact Fin.ext (by show i.val = 0 + 1 * i.val; omega)
        · exact Fin.ext (by show f.val = k * 256 + 1 * (f.val - k * 256); omega)
      refine (congrArg _ he).trans ((View.canon_cons_emb (gRect k hk) _ _ _).trans ?_)
      pointwise [k0_pay32]
      rw [gate_apply]
      exact congrArg (DenseSpec.gate (par I i) (row I i)) (Fin.ext (by show k * 256 + (f.val - k * 256) = f.val; omega))
    · exact (canon_off (gRect k hk) _ _ _ (not_mem_g k hk i f hf')).trans (ih (Nat.le_of_lt h) (by omega))

/-- Columns of a carried row. -/
theorem carried_apply (j k : Nat) (hj : j < 2) (h : k < 11) (i : Fin 128) (f : Fin 256) :
    View.ld I.x18 (sRect j k hj h) (ix4 0 0 i f) = st I i ⟨j, hj⟩ (col k h f) := congrArg I.x18 (by
  funext a
  fin_cases a
  · exact Fin.ext (by show j + 1 * 0 = j; omega)
  · rfl
  · exact Fin.ext (by show 0 + 1 * i.val = i.val; omega)
  · exact Fin.ext (by show k * 256 + 1 * f.val = k * 256 + f.val; omega))

/-- The activation after `n` turns, at a column done. -/
theorem acts_apply (n : Nat) (h : n ≤ 11) (i : Fin 128) (f : Fin 2816) (hf : f.val < n * 256) :
    View.canon (acts I n h) (ix2 i f) = DenseSpec.act (par I i) (row I i) (st I i 0) (st I i 1) f := by
  induction n with
  | zero => omega
  | succ k ih =>
    have hk : k < 11 := h
    unfold acts
    by_cases hf' : k * 256 ≤ f.val
    · have he : (ix2 i f : S128x2816.Idx) = (aRect k hk).emb (ix2 i ⟨f.val - k * 256, by omega⟩) := by
        funext a
        fin_cases a
        · exact Fin.ext (by show i.val = 0 + 1 * i.val; omega)
        · exact Fin.ext (by show f.val = k * 256 + 1 * (f.val - k * 256); omega)
      have hcol : col k hk ⟨f.val - k * 256, by omega⟩ = f :=
        Fin.ext (by show k * 256 + (f.val - k * 256) = f.val; omega)
      have htap : ∀ (j : Nat) (hj : j < 3), View.ld I.x15 (tapRect j k hj hk) (ix2 0 ⟨f.val - k * 256, by omega⟩) = (par I i).cw ⟨j, hj⟩ f :=
        fun j hj => congrArg I.x15 (by
          funext a
          fin_cases a
          · exact Fin.ext (by show j + 1 * 0 = j; omega)
          · exact Fin.ext (by show k * 256 + 1 * (f.val - k * 256) = f.val; omega))
      have hbias : View.ld I.x16 (biasRect k hk) (ix2 0 ⟨f.val - k * 256, by omega⟩) = (par I i).cb f :=
        congrArg I.x16 (by
          funext a
          fin_cases a
          · rfl
          · exact Fin.ext (by show k * 256 + 1 * (f.val - k * 256) = f.val; omega))
      have hs : ∀ (v : Vec Ideal S1x1x128x256 .f32) (g : Fin 256), k0_pay30 (F := Ideal) v (ix2 i g) = v (ix4 0 0 i g) := fun v g => by
        pointwise [k0_pay30]
      have hs' : ∀ (v : Vec Ideal S1x1x128x256 .f32) (g : Fin 256), k0_pay31 (F := Ideal) v (ix2 i g) = v (ix4 0 0 i g) := hs
      refine (congrArg _ he).trans ((View.canon_cons_emb (aRect k hk) _ _ _).trans ?_)
      exact chunk_act _ _ _ _ _ _ _ _ i _ (par I i) (row I i) _ _ f ((gate_apply I k hk i _).trans (by rw [hcol]))
        ((up_apply I k hk i _).trans (by rw [hcol]))
        ((hs _ _).trans ((carried_apply I 0 k _ hk i _).trans (by rw [hcol]; rfl)))
        ((hs' _ _).trans ((carried_apply I 1 k _ hk i _).trans (by rw [hcol]; rfl)))
        (htap 0 _) (htap 1 _) (htap 2 _) hbias
    · exact (canon_off (aRect k hk) _ _ _ (not_mem_a k hk i f hf')).trans (ih (Nat.le_of_lt h) (by omega))

variable (va : Memref sig .tc .vmem S128x2816 .bf16)

/-- Read back whole, the activation is what its stores leave. -/
theorem actRead_eq : actRead I va = View.canon (acts I 11 (le_refl 11)) :=
  funext fun j => by
    unfold actRead
    rw [View.readCov_eq_canon']
    refine congrArg (View.canon (acts I 11 (le_refl 11))) (funext fun a => Fin.ext ?_)
    fin_cases a
    · show 0 + 1 * (j 0).val = (j 0).val
      omega
    · show 0 + 1 * (j 1).val = (j 1).val
      omega

/-- The output's rows. -/
theorem yTile_apply (i : Fin 128) (e : Fin 1024) :
    yTile I va (ix3 0 i e) = DenseSpec.y (par I i) (row I i) (st I i 0) (st I i 1) e := by
  unfold yTile
  rw [actRead_eq]
  pointwise [k0_pay1, k0_pay74, k0_pay75, k0_pay76]
  simp only [x1t_apply]
  simp only [acts_apply I 11 (le_refl 11) i _ (Fin.isLt _)]
  rfl

end Cert.Step
-- ==== Proof.StepRef.lean ====
/-
  The decoding step's reference read at an index: a sequence's row of it is the row function of `DenseSpec`, over its two
  carried gates, and the first mixer's output is that of `StepSpec`.
-/
module

public import proofs.«01_k».proof.Proof.Gen.Reference3Ideal.Read
public import proofs.«01_k».proof.Proof.DenseSpec
public import proofs.«01_k».proof.Proof.StepSpec
public import Idealize.ShloMosaic.Lib.Pointwise

@[expose] public section

noncomputable section

namespace Cert.StepRef

open Idealize.ShloMosaic Idealize.ShloMosaic.TcCoe Idealize.SL.Sem
open Cert.Reference3Ideal Cert.Reference3Ideal.Gen Cert.Reference3Ideal.Read Cert.DenseSpec

/-- The program's inputs. -/
structure Args where
  x0 : (⟨S128x1x8x128, .f32⟩ : BufTy).Contents (Elt Ideal)
  x1 : (⟨S128x1x1024, .f32⟩ : BufTy).Contents (Elt Ideal)
  x2 : (⟨S128x1x1024, .f32⟩ : BufTy).Contents (Elt Ideal)
  x3 : (⟨S128x1x2048, .f32⟩ : BufTy).Contents (Elt Ideal)
  x4 : (⟨S128x1x1024, .f32⟩ : BufTy).Contents (Elt Ideal)
  x5 : (⟨S128x1024, .f32⟩ : BufTy).Contents (Elt Ideal)
  x6 : (⟨S128x1024, .f32⟩ : BufTy).Contents (Elt Ideal)
  x7 : (⟨S128x1024, .f32⟩ : BufTy).Contents (Elt Ideal)
  x8 : (⟨S128x1024, .f32⟩ : BufTy).Contents (Elt Ideal)
  x9 : (⟨S1x128x2x2816, .f32⟩ : BufTy).Contents (Elt Ideal)
  x10 : (⟨S1x128, .f32⟩ : BufTy).Contents (Elt Ideal)
  x11 : (⟨S1x1024, .f32⟩ : BufTy).Contents (Elt Ideal)
  x12 : (⟨S1024, .f32⟩ : BufTy).Contents (Elt Ideal)
  x13 : (⟨S1x1024x1024, .f32⟩ : BufTy).Contents (Elt Ideal)
  x14 : (⟨S1x1024x1024, .f32⟩ : BufTy).Contents (Elt Ideal)
  x15 : (⟨S1x1024x1024, .f32⟩ : BufTy).Contents (Elt Ideal)
  x16 : (⟨S1x1024x2816, .f32⟩ : BufTy).Contents (Elt Ideal)
  x17 : (⟨S1x1024x2816, .f32⟩ : BufTy).Contents (Elt Ideal)
  x18 : (⟨S1x3x2816, .f32⟩ : BufTy).Contents (Elt Ideal)
  x19 : (⟨S1x2816, .f32⟩ : BufTy).Contents (Elt Ideal)
  x20 : (⟨S1x2816x1024, .f32⟩ : BufTy).Contents (Elt Ideal)

variable (A : Args) (b : Fin 128)

/-- A sequence's modulation and the layer's weights, from the program's inputs. -/
def par : Par where
  gt1 e := A.x5 (ix2 b e)
  sh2 e := A.x6 (ix2 b e)
  sc2 e := A.x7 (ix2 b e)
  gt2 e := A.x8 (ix2 b e)
  n2 e := A.x11 (ix2 0 e)
  fn e := A.x12 (ix1 e)
  wa c e := A.x13 (ix3 0 c e)
  wb c e := A.x14 (ix3 0 c e)
  wo c e := A.x15 (ix3 0 c e)
  wg c f := A.x16 (ix3 0 c f)
  wu c f := A.x17 (ix3 0 c f)
  cw j f := A.x18 (ix3 0 j f)
  cb f := A.x19 (ix2 0 f)
  wd f e := A.x20 (ix3 0 f e)

/-- A sequence's token, from the program's inputs. -/
def row : Row where
  og := StepSpec.out (fun h d => A.x0 (ix4 b 0 h d)) (fun d => A.x10 (ix2 0 d)) (fun c => A.x1 (ix3 b 0 c))
  ob c := A.x2 (ix3 b 0 c)
  ga l := A.x3 (ix3 b 0 ⟨l.val, by omega⟩)
  gb l := A.x3 (ix3 b 0 ⟨1024 + l.val, by omega⟩)
  x e := A.x4 (ix3 b 0 e)

/-- Its carried gate `j`. -/
def st (j : Fin 2) (f : Fin 2816) : EReal := A.x9 (ix4 0 b j f)

/-- A head's norm and gate. -/
theorem head_apply (h : Fin 8) (d : Fin 128) (c : Fin 1024) (hc : c.val = h.val * 128 + d.val) :
    val_main_v22 (F := Ideal) A.x0 A.x1 A.x10 (ix4 b 0 h d)
      = StepSpec.headAt (fun d => A.x0 (ix4 b 0 h d)) (A.x10 (ix2 0 d)) (A.x1 (ix3 b 0 c)) d := by
  pointwise [val_main_v22, val_main_v21, val_main_v20, val_main_call0_v5, val_main_call0_v4, val_main_call0_cst_0,
    val_main_call0_v3, val_main_call0_v2, val_main_call0_cst, val_main_call0_v1, val_main_call0_v0, val_main_v19, val_main_v18,
    val_main_v17, val_main_v16, val_main_v15, val_main_v14, val_main_v13, val_main_v12, val_main_cst_1, val_main_v11,
    val_main_v10, val_main_cst_0, val_main_v9, val_main_v8, val_main_cst, val_main_v7, val_main_v6]
  have e : c = ⟨h.val * 128 + d.val, by omega⟩ := Fin.ext hc
  rw [e]
  rfl

/-- The first mixer's output. -/
theorem og_apply (c : Fin 1024) :
    val_main_v23 (F := Ideal) A.x0 A.x1 A.x10 (ix3 b 0 c)
      = (row A b).og c := by
  pointwise [val_main_v23]
  rw [head_apply A b _ _ c (by show c.val = c.val / 128 * 128 + c.val % 128; omega)]
  rfl

theorem mix_apply (l : Fin 1024) :
    val_main_v42 (F := Ideal) A.x0 A.x1 A.x2 A.x3 A.x10 A.x13 A.x14 (ix3 b 0 l)
      = mix (par A b) (row A b) l := by
  pointwise [val_main_v42, val_main_v41, val_main_v40, val_main_v39, val_main_cst_5, val_main_v38, val_main_v37, val_main_cst_4,
    val_main_v36, val_main_v35, val_main_v34, val_main_v33, val_main_v32, val_main_cst_3, val_main_v31, val_main_v30,
    val_main_cst_2, val_main_v29, val_main_v28, val_main_v27, val_main_v26, val_main_v25, val_main_v24, val_main_v5,
    val_main_v4]
  simp only [og_apply A b]
  rfl

theorem x1_apply (e : Fin 1024) :
    val_main_v46 (F := Ideal) A.x0 A.x1 A.x2 A.x3 A.x4 A.x5 A.x10 A.x13 A.x14 A.x15 (ix3 b 0 e)
      = DenseSpec.x1 (par A b) (row A b) e := by
  pointwise [val_main_v46, val_main_v45, val_main_v44, val_main_v43, val_main_v0]
  simp only [mix_apply A b]
  rfl

theorem h2_apply (e : Fin 1024) :
    val_main_v64 (F := Ideal) A.x0 A.x1 A.x2 A.x3 A.x4 A.x5 A.x6 A.x7 A.x10 A.x11 A.x13 A.x14 A.x15 (ix3 b 0 e)
      = h2 (par A b) (row A b) e := by
  pointwise [val_main_v64, val_main_v63, val_main_v62, val_main_v61, val_main_cst_9, val_main_v60, val_main_v59, val_main_v58,
    val_main_v57, val_main_v56, val_main_v55, val_main_v54, val_main_v53, val_main_cst_8, val_main_v52, val_main_v51,
    val_main_cst_7, val_main_v50, val_main_v49, val_main_cst_6, val_main_v48, val_main_v47, val_main_v1, val_main_v2]
  simp only [x1_apply A b]
  rfl

theorem gate_apply (f : Fin 2816) :
    val_main_v66 (F := Ideal) A.x0 A.x1 A.x2 A.x3 A.x4 A.x5 A.x6 A.x7 A.x10 A.x11 A.x13 A.x14 A.x15 A.x16 (ix3 b 0 f)
      = gate (par A b) (row A b) f := by
  pointwise [val_main_v66, val_main_v65]
  simp only [h2_apply A b]
  rfl

theorem up_apply (f : Fin 2816) :
    val_main_v68 (F := Ideal) A.x0 A.x1 A.x2 A.x3 A.x4 A.x5 A.x6 A.x7 A.x10 A.x11 A.x13 A.x14 A.x15 A.x17 (ix3 b 0 f)
      = up (par A b) (row A b) f := by
  pointwise [val_main_v68, val_main_v67]
  simp only [h2_apply A b]
  rfl

/-- The carried gates, then the new one. -/
theorem ext_apply (n : Fin 3) (f : Fin 2816) :
    val_main_v70 (F := Ideal) A.x0 A.x1 A.x2 A.x3 A.x4 A.x5 A.x6 A.x7 A.x9 A.x10 A.x11 A.x13 A.x14 A.x15 A.x16 (ix3 b n f)
      = if h : n.val < 2 then st A b ⟨n.val, h⟩ f else gate (par A b) (row A b) f := by
  pointwise [val_main_v70, val_main_v69]
  refine dite_congr rfl (fun h => rfl) fun h => ?_
  have hn : (⟨n.val - 2, by omega⟩ : Fin 1) = 0 := Subsingleton.elim _ _
  exact (congrArg (fun q => val_main_v66 (F := Ideal) A.x0 A.x1 A.x2 A.x3 A.x4 A.x5 A.x6 A.x7 A.x10 A.x11 A.x13 A.x14 A.x15 A.x16 (ix3 b q f)) hn).trans (gate_apply A b f)

theorem conv_apply (f : Fin 2816) :
    val_main_v97 (F := Ideal) A.x0 A.x1 A.x2 A.x3 A.x4 A.x5 A.x6 A.x7 A.x9 A.x10 A.x11 A.x13 A.x14 A.x15 A.x16 A.x18 A.x19 (ix3 b 0 f)
      = conv (par A b) (st A b 0) (st A b 1) (gate (par A b) (row A b)) f := by
  pointwise [val_main_v97, val_main_v96, val_main_v95, val_main_v94, val_main_v93, val_main_v92, val_main_v91, val_main_v90,
    val_main_v89, val_main_v88, val_main_v87, val_main_v86, val_main_v85, val_main_v84, val_main_v83, val_main_v82,
    val_main_v81, val_main_v80, val_main_v79, val_main_v78, val_main_cst_10, val_main_v77, val_main_v76, val_main_v75,
    val_main_v74, val_main_v73, val_main_v72, val_main_v71]
  rw [ext_apply, ext_apply, ext_apply]
  rfl

theorem act_apply (f : Fin 2816) :
    val_main_v99 (F := Ideal) A.x0 A.x1 A.x2 A.x3 A.x4 A.x5 A.x6 A.x7 A.x9 A.x10 A.x11 A.x13 A.x14 A.x15 A.x16 A.x17 A.x18 A.x19 (ix3 b 0 f)
      = act (par A b) (row A b) (st A b 0) (st A b 1) f := by
  pointwise [val_main_v99, val_main_v98, val_main_call1_v5, val_main_call1_v4, val_main_call1_cst_0, val_main_call1_v3,
    val_main_call1_v2, val_main_call1_cst, val_main_call1_v1, val_main_call1_v0]
  rw [conv_apply, up_apply]
  rfl

theorem x2_apply (e : Fin 1024) :
    val_main_v103 (F := Ideal) A.x0 A.x1 A.x2 A.x3 A.x4 A.x5 A.x6 A.x7 A.x8 A.x9 A.x10 A.x11 A.x13 A.x14 A.x15 A.x16 A.x17 A.x18 A.x19 A.x20 (ix3 b 0 e)
      = DenseSpec.x2 (par A b) (row A b) (st A b 0) (st A b 1) e := by
  pointwise [val_main_v103, val_main_v102, val_main_v101, val_main_v100, val_main_v3]
  simp only [x1_apply A b, act_apply A b]
  rfl

/-- The reference's output row. -/
theorem y_apply (e : Fin 1024) :
    val_main_v117 (F := Ideal) A.x0 A.x1 A.x2 A.x3 A.x4 A.x5 A.x6 A.x7 A.x8 A.x9 A.x10 A.x11 A.x12 A.x13 A.x14 A.x15 A.x16 A.x17 A.x18 A.x19 A.x20 (ix3 0 b e)
      = y (par A b) (row A b) (st A b 0) (st A b 1) e := by
  pointwise [val_main_v117, val_main_v116, val_main_v115, val_main_v114, val_main_v113, val_main_v112, val_main_v111,
    val_main_v110, val_main_v109, val_main_cst_13, val_main_v108, val_main_v107, val_main_cst_12, val_main_v106, val_main_v105,
    val_main_cst_11, val_main_v104]
  simp only [x2_apply A b]
  rfl

/-- The reference's new gate. -/
theorem g_apply (f : Fin 2816) :
    val_main_v118 (F := Ideal) A.x0 A.x1 A.x2 A.x3 A.x4 A.x5 A.x6 A.x7 A.x10 A.x11 A.x13 A.x14 A.x15 A.x16 (ix3 0 b f)
      = gate (par A b) (row A b) f := by
  pointwise [val_main_v118]
  rw [gate_apply]

end Cert.StepRef
-- ==== Proof.StepArgs.lean ====
/-
  The blocks of the decoding step's one point as entries of the program's arguments.
-/
module

public import proofs.«01_k».proof.Proof.StepRead
public import proofs.«01_k».proof.Proof.StepRef

@[expose] public section

noncomputable section

namespace Cert.Step

open Idealize.ShloMosaic Idealize.ShloMosaic.TcCoe Idealize.SL.Sem
open Cert.Kernel3Ideal Cert.Kernel3Ideal.Gen

variable (m : (ℓ : Loc nD τ sig) → Buf (Elt Ideal) ℓ) (c : Dev nD) (t : Fin cfg0.N)

/-- The program's arguments. -/
def args : StepRef.Args :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6), m ((c : Thread nD τ).loc
    main_arg7), m ((c : Thread nD τ).loc main_arg8), m ((c : Thread nD τ).loc main_arg9), m ((c : Thread nD τ).loc main_arg10), m ((c : Thread nD
    τ).loc main_arg11), m ((c : Thread nD τ).loc main_arg12), m ((c : Thread nD τ).loc main_arg13), m ((c : Thread nD τ).loc main_arg14), m ((c :
    Thread nD τ).loc main_arg15), m ((c : Thread nD τ).loc main_arg16), m ((c : Thread nD τ).loc main_arg17), m ((c : Thread nD τ).loc main_arg18), m
    ((c : Thread nD τ).loc main_arg19), m ((c : Thread nD τ).loc main_arg20)⟩

/-- The blocks the point reads. -/
def insAt : Ins :=
  ⟨iblk m c 0 t, iblk m c 1 t, iblk m c 2 t, iblk m c 3 t, iblk m c 4 t, iblk m c 5 t, iblk m c 6 t, iblk m c 7 t, iblk m c 8 t, iblk m c 9 t, iblk m
    c 10 t, iblk m c 11 t, iblk m c 12 t, iblk m c 13 t, iblk m c 14 t, iblk m c 15 t, iblk m c 16 t, iblk m c 17 t, iblk m c 18 t, iblk m c 19 t,
    iblk m c 20 t⟩

theorem idx0 : ∀ t : Fin cfg0.N, win0_0.index t = ![0, 0, 0] := by decide +kernel
theorem idx1 : ∀ t : Fin cfg0.N, win0_1.index t = ![0, 0, 0] := by decide +kernel
theorem idx2 : ∀ t : Fin cfg0.N, win0_2.index t = ![0, 0, 0] := by decide +kernel
theorem idx3 : ∀ t : Fin cfg0.N, win0_3.index t = ![0, 0, 0] := by decide +kernel
theorem idx4 : ∀ t : Fin cfg0.N, win0_4.index t = ![0, 0, 0] := by decide +kernel
theorem idx5 : ∀ t : Fin cfg0.N, win0_5.index t = ![0, 0, 0] := by decide +kernel
theorem idx6 : ∀ t : Fin cfg0.N, win0_6.index t = ![0, 0, 0] := by decide +kernel
theorem idx7 : ∀ t : Fin cfg0.N, win0_7.index t = ![0, 0, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![0, 0] := by decide +kernel
theorem idx12 : ∀ t : Fin cfg0.N, win0_12.index t = ![0, 0] := by decide +kernel
theorem idx13 : ∀ t : Fin cfg0.N, win0_13.index t = ![0, 0] := by decide +kernel
theorem idx14 : ∀ t : Fin cfg0.N, win0_14.index t = ![0, 0] := by decide +kernel
theorem idx15 : ∀ t : Fin cfg0.N, win0_15.index t = ![0, 0] := by decide +kernel
theorem idx16 : ∀ t : Fin cfg0.N, win0_16.index t = ![0, 0] := by decide +kernel
theorem idx17 : ∀ t : Fin cfg0.N, win0_17.index t = ![0, 0] := by decide +kernel
theorem idx18 : ∀ t : Fin cfg0.N, win0_18.index t = ![0, 0, 0, 0] := by decide +kernel
theorem idx19 : ∀ t : Fin cfg0.N, win0_19.index t = ![0, 0, 0] := by decide +kernel
theorem idx20 : ∀ t : Fin cfg0.N, win0_20.index t = ![0, 0] := by decide +kernel
theorem idx21 : ∀ t : Fin cfg0.N, win0_21.index t = ![0, 0, 0] := by decide +kernel
theorem idx22 : ∀ t : Fin cfg0.N, win0_22.index t = ![0, 0, 0] := by decide +kernel

theorem og_at (h : Fin 8) (i d : Fin 128) : iblk m c 0 t (ix3 h i d) = m ((c : Thread nD τ).loc main_arg0) (ix4 i 0 h d) := by
  unfold iblk
  rw [View.read_apply]
  entry_read
  pointwise
  blk_ext [iblk, idx0 t]

theorem ob_at (i : Fin 128) (e : Fin 1024) : iblk m c 1 t (ix3 0 i e) = m ((c : Thread nD τ).loc main_arg2) (ix3 i 0 e) := by
  unfold iblk
  rw [View.read_apply]
  entry_read
  pointwise
  blk_ext [iblk, idx1 t]

theorem gab_at (i : Fin 128) (e : Fin 2048) : iblk m c 2 t (ix3 0 i e) = m ((c : Thread nD τ).loc main_arg3) (ix3 i 0 e) := by
  unfold iblk
  rw [View.read_apply]
  entry_read
  pointwise
  blk_ext [iblk, idx2 t]

theorem x_at (i : Fin 128) (e : Fin 1024) : iblk m c 3 t (ix3 0 i e) = m ((c : Thread nD τ).loc main_arg4) (ix3 i 0 e) := by
  unfold iblk
  rw [View.read_apply]
  entry_read
  pointwise
  blk_ext [iblk, idx3 t]

theorem gt1_at (i : Fin 128) (e : Fin 1024) : iblk m c 4 t (ix3 0 i e) = m ((c : Thread nD τ).loc main_arg5) (ix2 i e) := by
  unfold iblk
  rw [View.read_apply]
  entry_read
  pointwise
  blk_ext [iblk, idx4 t]

theorem sh2_at (i : Fin 128) (e : Fin 1024) : iblk m c 5 t (ix3 0 i e) = m ((c : Thread nD τ).loc main_arg6) (ix2 i e) := by
  unfold iblk
  rw [View.read_apply]
  entry_read
  pointwise
  blk_ext [iblk, idx5 t]

theorem sc2_at (i : Fin 128) (e : Fin 1024) : iblk m c 6 t (ix3 0 i e) = m ((c : Thread nD τ).loc main_arg7) (ix2 i e) := by
  unfold iblk
  rw [View.read_apply]
  entry_read
  pointwise
  blk_ext [iblk, idx6 t]

theorem gt2_at (i : Fin 128) (e : Fin 1024) : iblk m c 7 t (ix3 0 i e) = m ((c : Thread nD τ).loc main_arg8) (ix2 i e) := by
  unfold iblk
  rw [View.read_apply]
  entry_read
  pointwise
  blk_ext [iblk, idx7 t]

theorem n2_at (e : Fin 1024) : iblk m c 8 t (ix2 0 e) = m ((c : Thread nD τ).loc main_arg11) (ix2 0 e) := by
  blk_ext [iblk, V_main_arg11, idx8 t]

theorem fn_at (e : Fin 1024) : iblk m c 9 t (ix2 0 e) = m ((c : Thread nD τ).loc main_arg12) (ix1 e) := by
  unfold iblk
  rw [View.read_apply]
  entry_read
  pointwise
  blk_ext [iblk, idx9 t]

theorem wa_at (i e : Fin 1024) : iblk m c 10 t (ix2 i e) = m ((c : Thread nD τ).loc main_arg13) (ix3 0 i e) := by
  unfold iblk
  rw [View.read_apply]
  entry_read
  pointwise
  blk_ext [iblk, idx10 t]

theorem wb_at (i e : Fin 1024) : iblk m c 11 t (ix2 i e) = m ((c : Thread nD τ).loc main_arg14) (ix3 0 i e) := by
  unfold iblk
  rw [View.read_apply]
  entry_read
  pointwise
  blk_ext [iblk, idx11 t]

theorem wo_at (i e : Fin 1024) : iblk m c 12 t (ix2 i e) = m ((c : Thread nD τ).loc main_arg15) (ix3 0 i e) := by
  unfold iblk
  rw [View.read_apply]
  entry_read
  pointwise
  blk_ext [iblk, idx12 t]

theorem wg_at (i : Fin 1024) (e : Fin 2816) : iblk m c 13 t (ix2 i e) = m ((c : Thread nD τ).loc main_arg16) (ix3 0 i e) := by
  unfold iblk
  rw [View.read_apply]
  entry_read
  pointwise
  blk_ext [iblk, idx13 t]

theorem wu_at (i : Fin 1024) (e : Fin 2816) : iblk m c 14 t (ix2 i e) = m ((c : Thread nD τ).loc main_arg17) (ix3 0 i e) := by
  unfold iblk
  rw [View.read_apply]
  entry_read
  pointwise
  blk_ext [iblk, idx14 t]

theorem cw_at (i : Fin 3) (e : Fin 2816) : iblk m c 15 t (ix2 i e) = m ((c : Thread nD τ).loc main_arg18) (ix3 0 i e) := by
  unfold iblk
  rw [View.read_apply]
  entry_read
  pointwise
  blk_ext [iblk, idx15 t]

theorem cb_at (e : Fin 2816) : iblk m c 16 t (ix2 0 e) = m ((c : Thread nD τ).loc main_arg19) (ix2 0 e) := by
  blk_ext [iblk, V_main_arg19, idx16 t]

theorem wd_at (i : Fin 2816) (e : Fin 1024) : iblk m c 17 t (ix2 i e) = m ((c : Thread nD τ).loc main_arg20) (ix3 0 i e) := by
  unfold iblk
  rw [View.read_apply]
  entry_read
  pointwise
  blk_ext [iblk, idx17 t]

theorem z_at (i : Fin 128) (e : Fin 1024) : iblk m c 19 t (ix3 0 i e) = m ((c : Thread nD τ).loc main_arg1) (ix3 i 0 e) := by
  unfold iblk
  rw [View.read_apply]
  entry_read
  pointwise
  blk_ext [iblk, idx19 t]

theorem onorm_at (d : Fin 128) : iblk m c 20 t (ix2 0 d) = m ((c : Thread nD τ).loc main_arg10) (ix2 0 d) := by
  blk_ext [iblk, V_main_arg10, idx20 t]

end Cert.Step
-- ==== Proof.StepPar.lean ====
/-
  The decoding step's rows, weights and carried gates are the program's arguments.
-/
module

public import proofs.«01_k».proof.Proof.StepArgs

@[expose] public section

noncomputable section

namespace Cert.Step

open Idealize.ShloMosaic Idealize.ShloMosaic.TcCoe Idealize.SL.Sem
open Cert.Kernel3Ideal Cert.Kernel3Ideal.Gen

variable (m : (ℓ : Loc nD τ sig) → Buf (Elt Ideal) ℓ) (c : Dev nD) (t : Fin cfg0.N)

/-- A carried gate is the argument's. -/
theorem st_at (j : Fin 2) (i : Fin 128) (e : Fin 2816) : iblk m c 18 t (ix4 j 0 i e) = m ((c : Thread nD τ).loc main_arg9) (ix4 0 i j e) := by
  unfold iblk
  rw [View.read_apply]
  entry_read
  pointwise
  blk_ext [iblk, idx18 t]

/-- A sequence's token row is the arguments'. -/
theorem row_at (i : Fin 128) : row (insAt m c t) i = StepRef.row (args m c) i := by
  unfold row StepRef.row insAt args
  apply DenseSpec.row_eq
  · intro e
    dsimp only
    exact congrFun (congr (congr (congrArg StepSpec.out (funext fun h => funext fun d => og_at m c t h i d)) (funext fun d => onorm_at m c t d))
      (funext fun e => z_at m c t i e)) e
  · intro e
    dsimp only
    exact ob_at m c t i e
  · intro e
    dsimp only
    exact gab_at m c t i _
  · intro e
    dsimp only
    exact gab_at m c t i _
  · intro e
    dsimp only
    exact x_at m c t i e

/-- Its carried gates are the arguments'. -/
theorem carried_at (i : Fin 128) (j : Fin 2) : st (insAt m c t) i j = StepRef.st (args m c) i j := by
  funext f
  unfold st StepRef.st insAt args
  dsimp only
  exact st_at m c t j i f

/-- Its modulation and the weights are the arguments'. -/
theorem par_at (i : Fin 128) : par (insAt m c t) i = StepRef.par (args m c) i := by
  unfold par StepRef.par insAt args
  apply DenseSpec.par_eq
  · intro e
    dsimp only
    exact gt1_at m c t i e
  · intro e
    dsimp only
    exact sh2_at m c t i e
  · intro e
    dsimp only
    exact sc2_at m c t i e
  · intro e
    dsimp only
    exact gt2_at m c t i e
  · intro e
    dsimp only
    exact n2_at m c t e
  · intro e
    dsimp only
    exact fn_at m c t e
  · intro i e
    dsimp only
    exact wa_at m c t i e
  · intro i e
    dsimp only
    exact wb_at m c t i e
  · intro i e
    dsimp only
    exact wo_at m c t i e
  · intro i e
    dsimp only
    exact wg_at m c t i e
  · intro i e
    dsimp only
    exact wu_at m c t i e
  · intro i e
    dsimp only
    exact cw_at m c t i e
  · intro e
    dsimp only
    exact cb_at m c t e
  · intro i e
    dsimp only
    exact wd_at m c t i e

end Cert.Step
-- ==== Proof.StepEq.lean ====
/-
  The decoding step's dense kernel computes the reference: its one point's rows are the reference's, so its two arrays are.
-/
module

public import proofs.«01_k».proof.Defs
public import proofs.«01_k».proof.Proof.StepPieces
public import proofs.«01_k».proof.Proof.StepPar
public import proofs.«01_k».proof.Proof.Gen.Reference3Ideal.Run

@[expose] public section

noncomputable section

namespace Cert.Step

open Idealize.ShloMosaic Idealize.ShloMosaic.TcCoe Idealize.SL.Sem
open Cert.Kernel3Ideal Cert.Kernel3Ideal.Gen

variable (m : (ℓ : Loc nD τ sig) → Buf (Elt Ideal) ℓ) (c : Dev nD) (t : Fin cfg0.N)

/-- One store of the whole output leaves what it stored. -/
theorem y_canon (w : FVec Ideal S1x128x1024 .f32) :
    View.canon [(⟨Rect.unit (s := S1x128x1024) ![0, 0, 0] S1x128x1024.size inb_S1x128x1024_S1x128x1024_0_0_0, w⟩ :
      View.Piece (Elt Ideal) S1x128x1024 .f32)] = w := View.canon_unit_zero (S := S1x128x1024) (by decide) _ _

/-- What the point leaves. -/
theorem outs : outsAt0 m c t = (yTile (insAt m c t) scM0_0, View.canon (gates (insAt m c t) 11 (le_refl 11))) := by
  unfold outsAt0 insAt
  refine Prod.ext ?_ ?_
  · dsimp only
    unfold out0_A_21
    rw [View.read_writes_junk_eq_canon, y_raw, rawIns_eq]
    exact y_canon _
  · dsimp only
    unfold out0_A_22
    rw [View.read_writes_junk_eq_canon, g_raw, rawIns_eq]

/-- The reference's output, of the kernel's arguments. -/
def refY : S1x128x1024.Idx → EReal :=
  Reference3Ideal.Read.val_main_v117 (F := Ideal) (args m c).x0 (args m c).x1 (args m c).x2 (args m c).x3 (args m c).x4 (args m c).x5
    (args m c).x6 (args m c).x7 (args m c).x8 (args m c).x9 (args m c).x10 (args m c).x11 (args m c).x12 (args m c).x13 (args m c).x14
    (args m c).x15 (args m c).x16 (args m c).x17 (args m c).x18 (args m c).x19 (args m c).x20

/-- The reference's new gates, of the kernel's arguments. -/
def refG : S1x128x2816.Idx → EReal :=
  Reference3Ideal.Read.val_main_v118 (F := Ideal) (args m c).x0 (args m c).x1 (args m c).x2 (args m c).x3 (args m c).x4 (args m c).x5
    (args m c).x6 (args m c).x7 (args m c).x10 (args m c).x11 (args m c).x13 (args m c).x14 (args m c).x15 (args m c).x16

theorem y_at (i : Fin 128) (e : Fin 1024) : (outsAt0 m c t).1 (ix3 0 i e) = refY m c (ix3 0 i e) := by
  refine Eq.trans ?_ (StepRef.y_apply (args m c) i e).symm
  rw [outs]
  dsimp only
  rw [yTile_apply, par_at, row_at, carried_at, carried_at]

theorem g_at (i : Fin 128) (f : Fin 2816) : (outsAt0 m c t).2 (ix3 0 i f) = refG m c (ix3 0 i f) := by
  refine Eq.trans ?_ (StepRef.g_apply (args m c) i f).symm
  rw [outs]
  dsimp only
  rw [gates_apply _ 11 (le_refl 11) i f f.isLt, par_at, row_at]

/-- The output array after the run. -/
theorem arr_y : (dats m 0 c).arrAt 21 cfg0.N = refY m c := by
  refine (dats m 0 c).arrAt_eq_of_covers 21 _ (by decide +kernel) fun t hf y => ?_
  rw [after0_21]
  have y0 : (y 0 : Nat) < 1 := (y 0).isLt
  have y1 : (y 1 : Nat) < 128 := (y 1).isLt
  have y2 : (y 2 : Nat) < 1024 := (y 2).isLt
  have hy : (cfg0.win 21).xinj (cfg0.grid.coords t) y = ix3 0 ⟨(y 1 : Nat), y1⟩ ⟨(y 2 : Nat), y2⟩ :=
    funext fun a => Fin.ext (by
      match a with
      | ⟨0, _⟩ => show (y 0 : Nat) = 0; omega
      | ⟨1, _⟩ => rfl
      | ⟨2, _⟩ => rfl)
  rw [hy]
  refine (y_at m c t _ _).trans ?_
  refine congrArg (refY m c) (funext fun a => Fin.ext ?_)
  match a with
  | ⟨0, _⟩ =>
    refine Eq.trans ?_ ((cfg0.win 21).rect_emb_val t y 0).symm
    rw [show (cfg0.win 21).index t 0 = 0 from congrFun (idx21 t) 0]
    show 0 = 0 * 1 + (y 0 : Nat)
    omega
  | ⟨1, _⟩ =>
    refine Eq.trans ?_ ((cfg0.win 21).rect_emb_val t y 1).symm
    rw [show (cfg0.win 21).index t 1 = 0 from congrFun (idx21 t) 1]
    show (y 1 : Nat) = 0 * 128 + (y 1 : Nat)
    omega
  | ⟨2, _⟩ =>
    refine Eq.trans ?_ ((cfg0.win 21).rect_emb_val t y 2).symm
    rw [show (cfg0.win 21).index t 2 = 0 from congrFun (idx21 t) 2]
    show (y 2 : Nat) = 0 * 1024 + (y 2 : Nat)
    omega

/-- The array of new gates after the run. -/
theorem arr_g : (dats m 0 c).arrAt 22 cfg0.N = refG m c := by
  refine (dats m 0 c).arrAt_eq_of_covers 22 _ (by decide +kernel) fun t hf y => ?_
  rw [after0_22]
  have y0 : (y 0 : Nat) < 1 := (y 0).isLt
  have y1 : (y 1 : Nat) < 128 := (y 1).isLt
  have y2 : (y 2 : Nat) < 2816 := (y 2).isLt
  have hy : (cfg0.win 22).xinj (cfg0.grid.coords t) y = ix3 0 ⟨(y 1 : Nat), y1⟩ ⟨(y 2 : Nat), y2⟩ :=
    funext fun a => Fin.ext (by
      match a with
      | ⟨0, _⟩ => show (y 0 : Nat) = 0; omega
      | ⟨1, _⟩ => rfl
      | ⟨2, _⟩ => rfl)
  rw [hy]
  refine (g_at m c t _ _).trans ?_
  refine congrArg (refG m c) (funext fun a => Fin.ext ?_)
  match a with
  | ⟨0, _⟩ =>
    refine Eq.trans ?_ ((cfg0.win 22).rect_emb_val t y 0).symm
    rw [show (cfg0.win 22).index t 0 = 0 from congrFun (idx22 t) 0]
    show 0 = 0 * 1 + (y 0 : Nat)
    omega
  | ⟨1, _⟩ =>
    refine Eq.trans ?_ ((cfg0.win 22).rect_emb_val t y 1).symm
    rw [show (cfg0.win 22).index t 1 = 0 from congrFun (idx22 t) 1]
    show (y 1 : Nat) = 0 * 128 + (y 1 : Nat)
    omega
  | ⟨2, _⟩ =>
    refine Eq.trans ?_ ((cfg0.win 22).rect_emb_val t y 2).symm
    rw [show (cfg0.win 22).index t 2 = 0 from congrFun (idx22 t) 2]
    show (y 2 : Nat) = 0 * 2816 + (y 2 : Nat)
    omega

/-- The decoding step's claim. -/
theorem algebraic : Cert.algebraic_Kernel3Ideal_Reference3Ideal := fun m g m' g' _ hagree =>
  ⟨refY m, refG m,
    (θ_run Cert.Kernel3Ideal.defs _ _).mono (fun _ h c => ⟨(h c).1.trans (arr_y m c), (h c).2.1.trans (arr_g m c), (h c).2.2⟩)
      (Cert.Kernel3Ideal.Value.run_blocks (F := Ideal) m g),
    (θ_run Cert.Reference3Ideal.defs _ _).mono (fun _ h c =>
      ⟨(h c).1.trans ((Cert.Reference3Ideal.Read.val_main_v117_eq _).trans (by
          obtain ⟨h0, h1, h2, h3, h4, h5, h6, h7, h8, h9, h10, h11, h12, h13, h14, h15, h16, h17, h18, h19, h20⟩ := hagree c
          unfold refY args
          rw [← h0, ← h1, ← h2, ← h3, ← h4, ← h5, ← h6, ← h7, ← h8, ← h9, ← h10, ← h11, ← h12, ← h13, ← h14, ← h15, ← h16, ← h17,
            ← h18, ← h19, ← h20])),
        (h c).2.1.trans ((Cert.Reference3Ideal.Read.val_main_v118_eq _).trans (by
          obtain ⟨h0, h1, h2, h3, h4, h5, h6, h7, h8, h9, h10, h11, h12, h13, h14, h15, h16, h17, h18, h19, h20⟩ := hagree c
          unfold refG args
          rw [← h0, ← h1, ← h2, ← h3, ← h4, ← h5, ← h6, ← h7, ← h10, ← h11, ← h13, ← h14, ← h15, ← h16])),
        (h c).2.2⟩) (Cert.Reference3Ideal.Value.run (F := Ideal) m' g')⟩

end Cert.Step
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Read
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Read
public import proofs.«01_k».proof.Proof.Gen.Reference2Ideal.Run
public import proofs.«01_k».proof.Proof.Gen.Reference3Ideal.Read
public import proofs.«01_k».proof.Proof.Gen.Reference3Ideal.Run
public import proofs.«01_k».proof.Proof.SwaEq
public import proofs.«01_k».proof.Proof.DenseEq
public import proofs.«01_k».proof.Proof.StepQuiet
public import proofs.«01_k».proof.Proof.StepEq
public import Idealize.ShloMosaic.Adequacy
public import Idealize.ShloMosaic.Init

@[expose] public section

noncomputable section

namespace Cert.Proof

open Idealize.ShloMosaic Idealize.SL.Sem Cert.Kernel

/-- The attention reference, a host program without semaphores: its generated run, read at the arguments. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The dense tail's reference likewise, past its two results. -/
theorem frame_ri2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The decoding step's dense tail likewise. -/
theorem frame_ri3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The two named constants of the attention kernel. -/
theorem preserves : Cert.preserves_Kernel_KernelIdeal :=
  ⟨IdealRules.named_const.statement Cert.KernelIdeal.κ "q_scale" .f32 0x3E38AA3B#32 (((1 / 8) * (Real.log 2)⁻¹ : ℝ) : EReal) rfl,
    IdealRules.named_const.statement Cert.KernelIdeal.κ "log2e" .f32 0x3FB8AA3B#32 (((Real.log 2)⁻¹ : ℝ) : EReal) rfl⟩

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.SwaEq.preFacts,
    fun m ρ _ => Cert.Kernel.Gen.frame m ρ, fun m ρ _ => Cert.KernelIdeal.Gen.frame m ρ,
    fun m ρ _ => Cert.KernelIdeal.Gen.frame m ρ, frame_ri, fun m ρ _ => frame_ri m ρ trivial,
    fun m ρ _ => Cert.Kernel2.Gen.frame m ρ, fun m ρ _ => Cert.Kernel2Ideal.Gen.frame m ρ, frame_ri2,
    Cert.Step.frame_kernel, fun m ρ _ => Cert.Kernel3Ideal.Gen.frame m ρ, frame_ri3,
    preserves, Cert.SwaEq.algebraic, trivial, Cert.Dense.algebraic, trivial, Cert.Step.algebraic⟩

end Cert.Proof

end
